-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_equal [hPre_sizes_equal : Cert.Pre_sizes_equal.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_equal [hPre_sizes_equal : Cert.Pre_sizes_equal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_equal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sizes_equal [hKernelIdeal : Cert.KernelIdeal.Facts] [hPre_sizes_equal : Cert.Pre_sizes_equal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_equal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sizes_equal [hReferenceIdeal : Cert.ReferenceIdeal.Facts] [hPre_sizes_equal : Cert.Pre_sizes_equal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_equal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sizes_equal [hKernelIdeal : Cert.KernelIdeal.Facts] [hReferenceIdeal : Cert.ReferenceIdeal.Facts] [hPre_sizes_equal : Cert.Pre_sizes_equal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_equal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sizes_equal : Cert.Pre_sizes_equal.Facts),
    quiescent_Kernel (hKernel := hKernel)
    ∧ quiescent_KernelIdeal (hKernelIdeal := hKernelIdeal)
    ∧ quiescent_KernelIdeal_pre_sizes_equal (hKernelIdeal := hKernelIdeal) (hPre_sizes_equal := hPre_sizes_equal)
    ∧ quiescent_ReferenceIdeal (hReferenceIdeal := hReferenceIdeal)
    ∧ quiescent_ReferenceIdeal_pre_sizes_equal (hReferenceIdeal := hReferenceIdeal) (hPre_sizes_equal := hPre_sizes_equal)
    ∧ preserves_Kernel_KernelIdeal
    ∧ algebraic_KernelIdeal_ReferenceIdeal_pre_sizes_equal (hKernelIdeal := hKernelIdeal) (hReferenceIdeal := hReferenceIdeal) (hPre_sizes_equal := hPre_sizes_equal)
-- ==== Pre_sizes_equal.lean ====
abbrev S32768x512 : Shape := ⟨2, ![32768, 512]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x512 .f32) (main_arg1 : IVec S16 32) : IVec S_ 1 :=
  let main_c : IVec S_ 32 := constantI S_ 32 2048#32
  let main_v0 : IVec S16 32 := broadcastInDim S16 ![] bcast_S_S16 main_c
  let main_v1 : IVec S16 1 := cmpi .eq main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S32768x512 : Shape := ⟨2, ![32768, 512]⟩
abbrev S16 : Shape := ⟨1, ![16]⟩
abbrev S16x512 : Shape := ⟨2, ![16, 512]⟩
abbrev S2x128x256 : Shape := ⟨3, ![2, 128, 256]⟩
abbrev S256 : Shape := ⟨1, ![256]⟩
abbrev S_ : Shape := ⟨0, ![]⟩
abbrev S1x128x256 : Shape := ⟨3, ![1, 128, 256]⟩
abbrev S128x256 : Shape := ⟨2, ![128, 256]⟩
abbrev S1x1x16 : Shape := ⟨3, ![1, 1, 16]⟩
abbrev S1x256 : Shape := ⟨2, ![1, 256]⟩

abbrev nBuf : Table → Nat
  | .hbm => 3
  | .local .scVector .vmem => 2
  | _ => 0

abbrev bufTy : (tb : Table) → Fin (nBuf tb) → BufTy
  | .hbm, ⟨0, _⟩ => ⟨S32768x512, .f32⟩
  | .hbm, ⟨1, _⟩ => ⟨S16, .i32⟩
  | .hbm, ⟨2, _⟩ => ⟨S16x512, .f32⟩
  | .local .scVector .vmem, ⟨0, _⟩ => ⟨S2x128x256, .f32⟩
  | .local .scVector .vmem, ⟨1, _⟩ => ⟨S256, .f32⟩
  | _, _ => ⟨S32768x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2048_i32 : BitVec 32 := 2048#32
  let v29 : BitVec 32 := Scalar.muli v18 c2048_i32
  let v31 : BitVec 32 := Scalar.addi v29 c0_i32_11
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v30 : BitVec 32 := Scalar.muli v28 c256_i32
  ![v31.toNat, v30.toNat]
@[reducible] def k0_t1_loop : Scf.Loop 32 :=
  let c0_i32_42 : BitVec 32 := 0#32
  let c128_i32_43 : BitVec 32 := 128#32
  let v67 : BitVec 32 := Scalar.addi c0_i32_42 c128_i32_43
  let c1_i32_44 : BitVec 32 := 1#32
  ⟨c0_i32_42, v67, c1_i32_44⟩
def k0_off2 (k0_t1 : Fin k0_t1_loop.trips) : Fin 3 → Nat :=
  let c0_i32_252 : BitVec 32 := 0#32
  let v335 : Index := Scalar.indexCast c0_i32_252
  let c0_i32_42 : BitVec 32 := 0#32
  let c1_i32_44 : BitVec 32 := 1#32
  let arg8 : BitVec 32 := Scf.iv c0_i32_42 c1_i32_44 k0_t1
  let v336 : Index := Scalar.indexCast arg8
  let c0_253 : Index := 0#32
  ![0, v336.toNat, 0]
def k0_off3 (k0_t1 : Fin k0_t1_loop.trips) : Fin 3 → Nat :=
  let c0_i32_254 : BitVec 32 := 0#32
  let v340 : Index := Scalar.indexCast c0_i32_254
  let c0_i32_42 : BitVec 32 := 0#32
  let c1_i32_44 : BitVec 32 := 1#32
  let arg8 : BitVec 32 := Scf.iv c0_i32_42 c1_i32_44 k0_t1
  let v341 : Index := Scalar.indexCast arg8
  let c16_255 : Index := 16#32
  ![0, v341.toNat, 16]
def k0_off4 (k0_t1 : Fin k0_t1_loop.trips) : Fin 3 → Nat :=
  let c0_i32_256 : BitVec 32 := 0#32
  let v345 : Index := Scalar.indexCast c0_i32_256
  let c0_i32_42 : BitVec 32 := 0#32
  let c1_i32_44 : BitVec 32 := 1#32
  let arg8 : BitVec 32 := Scf.iv c0_i32_42 c1_i32_44 k0_t1
  let v346 : Index := Scalar.indexCast arg8
  let c32_257 : Index := 32#32
  ![0, v346.toNat, 32]
def k0_off5 (k0_t1 : Fin k0_t1_loop.trips) : Fin 3 → Nat :=
  let c0_i32_258 : BitVec 32 := 0#32
  let v350 : Index := Scalar.indexCast c0_i32_258
  let c0_i32_42 : BitVec 32 := 0#32
  let c1_i32_44 : BitVec 32 := 1#32
  let arg8 : BitVec 32 := Scf.iv c0_i32_42 c1_i32_44 k0_t1
  let v351 : Index := Scalar.indexCast arg8
  let c48_259 : Index := 48#32
  ![0, v351.toNat, 48]
def k0_off6 (k0_t1 : Fin k0_t1_loop.trips) : Fin 3 → Nat :=
  let c0_i32_260 : BitVec 32 := 0#32
  let v355 : Index := Scalar.indexCast c0_i32_260
  let c0_i32_42 : BitVec 32 := 0#32
  let c1_i32_44 : BitVec 32 := 1#32
  let arg8 : BitVec 32 := Scf.iv c0_i32_42 c1_i32_44 k0_t1
  let v356 : Index := Scalar.indexCast arg8
  let c64_261 : Index := 64#32
  ![0, v356.toNat, 64]
def k0_off7 (k0_t1 : Fin k0_t1_loop.trips) : Fin 3 → Nat :=
  let c0_i32_262 : BitVec 32 := 0#32
  let v360 : Index := Scalar.indexCast c0_i32_262
  let c0_i32_42 : BitVec 32 := 0#32
  let c1_i32_44 : BitVec 32 := 1#32
  let arg8 : BitVec 32 := Scf.iv c0_i32_42 c1_i32_44 k0_t1
  let v361 : Index := Scalar.indexCast arg8
  let c80_263 : Index := 80#32
  ![0, v361.toNat, 80]
def k0_off8 (k0_t1 : Fin k0_t1_loop.trips) : Fin 3 → Nat :=
  let c0_i32_264 : BitVec 32 := 0#32
  let v365 : Index := Scalar.indexCast c0_i32_264
  let c0_i32_42 : BitVec 32 := 0#32
  let c1_i32_44 : BitVec 32 := 1#32
  let arg8 : BitVec 32 := Scf.iv c0_i32_42 c1_i32_44 k0_t1
  let v366 : Index := Scalar.indexCast arg8
  let c96_265 : Index := 96#32
  ![0, v366.toNat, 96]
def k0_off9 (k0_t1 : Fin k0_t1_loop.trips) : Fin 3 → Nat :=
  let c0_i32_266 : BitVec 32 := 0#32
  let v370 : Index := Scalar.indexCast c0_i32_266
  let c0_i32_42 : BitVec 32 := 0#32
  let c1_i32_44 : BitVec 32 := 1#32
  let arg8 : BitVec 32 := Scf.iv c0_i32_42 c1_i32_44 k0_t1
  let v371 : Index := Scalar.indexCast arg8
  let c112_267 : Index := 112#32
  ![0, v371.toNat, 112]
def k0_off10 (k0_t1 : Fin k0_t1_loop.trips) : Fin 3 → Nat :=
  let c0_i32_268 : BitVec 32 := 0#32
  let v375 : Index := Scalar.indexCast c0_i32_268
  let c0_i32_42 : BitVec 32 := 0#32
  let c1_i32_44 : BitVec 32 := 1#32
  let arg8 : BitVec 32 := Scf.iv c0_i32_42 c1_i32_44 k0_t1
  let v376 : Index := Scalar.indexCast arg8
  let c128_269 : Index := 128#32
  ![0, v376.toNat, 128]
def k0_off11 (k0_t1 : Fin k0_t1_loop.trips) : Fin 3 → Nat :=
  let c0_i32_270 : BitVec 32 := 0#32
  let v380 : Index := Scalar.indexCast c0_i32_270
  let c0_i32_42 : BitVec 32 := 0#32
  let c1_i32_44 : BitVec 32 := 1#32
  let arg8 : BitVec 32 := Scf.iv c0_i32_42 c1_i32_44 k0_t1
  let v381 : Index := Scalar.indexCast arg8
  let c144_271 : Index := 144#32
  ![0, v381.toNat, 144]
def k0_off12 (k0_t1 : Fin k0_t1_loop.trips) : Fin 3 → Nat :=
  let c0_i32_272 : BitVec 32 := 0#32
  let v385 : Index := Scalar.indexCast c0_i32_272
  let c0_i32_42 : BitVec 32 := 0#32
  let c1_i32_44 : BitVec 32 := 1#32
  let arg8 : BitVec 32 := Scf.iv c0_i32_42 c1_i32_44 k0_t1
  let v386 : Index := Scalar.indexCast arg8
  let c160_273 : Index := 160#32
  ![0, v386.toNat, 160]
def k0_off13 (k0_t1 : Fin k0_t1_loop.trips) : Fin 3 → Nat :=
  let c0_i32_274 : BitVec 32 := 0#32
  let v390 : Index := Scalar.indexCast c0_i32_274
  let c0_i32_42 : BitVec 32 := 0#32
  let c1_i32_44 : BitVec 32 := 1#32
  let arg8 : BitVec 32 := Scf.iv c0_i32_42 c1_i32_44 k0_t1
  let v391 : Index := Scalar.indexCast arg8
  let c176_275 : Index := 176#32
  ![0, v391.toNat, 176]
def k0_off14 (k0_t1 : Fin k0_t1_loop.trips) : Fin 3 → Nat :=
  let c0_i32_276 : BitVec 32 := 0#32
  let v395 : Index := Scalar.indexCast c0_i32_276
  let c0_i32_42 : BitVec 32 := 0#32
  let c1_i32_44 : BitVec 32 := 1#32
  let arg8 : BitVec 32 := Scf.iv c0_i32_42 c1_i32_44 k0_t1
  let v396 : Index := Scalar.indexCast arg8
  let c192_277 : Index := 192#32
  ![0, v396.toNat, 192]
def k0_off15 (k0_t1 : Fin k0_t1_loop.trips) : Fin 3 → Nat :=
  let c0_i32_278 : BitVec 32 := 0#32
  let v400 : Index := Scalar.indexCast c0_i32_278
  let c0_i32_42 : BitVec 32 := 0#32
  let c1_i32_44 : BitVec 32 := 1#32
  let arg8 : BitVec 32 := Scf.iv c0_i32_42 c1_i32_44 k0_t1
  let v401 : Index := Scalar.indexCast arg8
  let c208_279 : Index := 208#32
  ![0, v401.toNat, 208]
def k0_off16 (k0_t1 : Fin k0_t1_loop.trips) : Fin 3 → Nat :=
  let c0_i32_280 : BitVec 32 := 0#32
  let v405 : Index := Scalar.indexCast c0_i32_280
  let c0_i32_42 : BitVec 32 := 0#32
  let c1_i32_44 : BitVec 32 := 1#32
  let arg8 : BitVec 32 := Scf.iv c0_i32_42 c1_i32_44 k0_t1
  let v406 : Index := Scalar.indexCast arg8
  let c224_281 : Index := 224#32
  ![0, v406.toNat, 224]
def k0_off17 (k0_t1 : Fin k0_t1_loop.trips) : Fin 3 → Nat :=
  let c0_i32_282 : BitVec 32 := 0#32
  let v410 : Index := Scalar.indexCast c0_i32_282
  let c0_i32_42 : BitVec 32 := 0#32
  let c1_i32_44 : BitVec 32 := 1#32
  let arg8 : BitVec 32 := Scf.iv c0_i32_42 c1_i32_44 k0_t1
  let v411 : Index := Scalar.indexCast arg8
  let c240_283 : Index := 240#32
  ![0, v411.toNat, 240]
@[reducible] def k0_t2_loop : Scf.Loop 32 :=
  let c0_i32_57 : BitVec 32 := 0#32
  let c128_i32_58 : BitVec 32 := 128#32
  let v82 : BitVec 32 := Scalar.addi c0_i32_57 c128_i32_58
  let c1_i32_59 : BitVec 32 := 1#32
  ⟨c0_i32_57, v82, c1_i32_59⟩
def k0_off18 (k0_t2 : Fin k0_t2_loop.trips) : Fin 3 → Nat :=
  let c1_i32_252 : BitVec 32 := 1#32
  let v335 : Index := Scalar.indexCast c1_i32_252
  let c0_i32_57 : BitVec 32 := 0#32
  let c1_i32_59 : BitVec 32 := 1#32
  let arg8 : BitVec 32 := Scf.iv c0_i32_57 c1_i32_59 k0_t2
  let v336 : Index := Scalar.indexCast arg8
  let c0_253 : Index := 0#32
  ![1, v336.toNat, 0]
def k0_off19 (k0_t2 : Fin k0_t2_loop.trips) : Fin 3 → Nat :=
  let c1_i32_254 : BitVec 32 := 1#32
  let v340 : Index := Scalar.indexCast c1_i32_254
  let c0_i32_57 : BitVec 32 := 0#32
  let c1_i32_59 : BitVec 32 := 1#32
  let arg8 : BitVec 32 := Scf.iv c0_i32_57 c1_i32_59 k0_t2
  let v341 : Index := Scalar.indexCast arg8
  let c16_255 : Index := 16#32
  ![1, v341.toNat, 16]
def k0_off20 (k0_t2 : Fin k0_t2_loop.trips) : Fin 3 → Nat :=
  let c1_i32_256 : BitVec 32 := 1#32
  let v345 : Index := Scalar.indexCast c1_i32_256
  let c0_i32_57 : BitVec 32 := 0#32
  let c1_i32_59 : BitVec 32 := 1#32
  let arg8 : BitVec 32 := Scf.iv c0_i32_57 c1_i32_59 k0_t2
  let v346 : Index := Scalar.indexCast arg8
  let c32_257 : Index := 32#32
  ![1, v346.toNat, 32]
def k0_off21 (k0_t2 : Fin k0_t2_loop.trips) : Fin 3 → Nat :=
  let c1_i32_258 : BitVec 32 := 1#32
  let v350 : Index := Scalar.indexCast c1_i32_258
  let c0_i32_57 : BitVec 32 := 0#32
  let c1_i32_59 : BitVec 32 := 1#32
  let arg8 : BitVec 32 := Scf.iv c0_i32_57 c1_i32_59 k0_t2
  let v351 : Index := Scalar.indexCast arg8
  let c48_259 : Index := 48#32
  ![1, v351.toNat, 48]
def k0_off22 (k0_t2 : Fin k0_t2_loop.trips) : Fin 3 → Nat :=
  let c1_i32_260 : BitVec 32 := 1#32
  let v355 : Index := Scalar.indexCast c1_i32_260
  let c0_i32_57 : BitVec 32 := 0#32
  let c1_i32_59 : BitVec 32 := 1#32
  let arg8 : BitVec 32 := Scf.iv c0_i32_57 c1_i32_59 k0_t2
  let v356 : Index := Scalar.indexCast arg8
  let c64_261 : Index := 64#32
  ![1, v356.toNat, 64]
def k0_off23 (k0_t2 : Fin k0_t2_loop.trips) : Fin 3 → Nat :=
  let c1_i32_262 : BitVec 32 := 1#32
  let v360 : Index := Scalar.indexCast c1_i32_262
  let c0_i32_57 : BitVec 32 := 0#32
  let c1_i32_59 : BitVec 32 := 1#32
  let arg8 : BitVec 32 := Scf.iv c0_i32_57 c1_i32_59 k0_t2
  let v361 : Index := Scalar.indexCast arg8
  let c80_263 : Index := 80#32
  ![1, v361.toNat, 80]
def k0_off24 (k0_t2 : Fin k0_t2_loop.trips) : Fin 3 → Nat :=
  let c1_i32_264 : BitVec 32 := 1#32
  let v365 : Index := Scalar.indexCast c1_i32_264
  let c0_i32_57 : BitVec 32 := 0#32
  let c1_i32_59 : BitVec 32 := 1#32
  let arg8 : BitVec 32 := Scf.iv c0_i32_57 c1_i32_59 k0_t2
  let v366 : Index := Scalar.indexCast arg8
  let c96_265 : Index := 96#32
  ![1, v366.toNat, 96]
def k0_off25 (k0_t2 : Fin k0_t2_loop.trips) : Fin 3 → Nat :=
  let c1_i32_266 : BitVec 32 := 1#32
  let v370 : Index := Scalar.indexCast c1_i32_266
  let c0_i32_57 : BitVec 32 := 0#32
  let c1_i32_59 : BitVec 32 := 1#32
  let arg8 : BitVec 32 := Scf.iv c0_i32_57 c1_i32_59 k0_t2
  let v371 : Index := Scalar.indexCast arg8
  let c112_267 : Index := 112#32
  ![1, v371.toNat, 112]
def k0_off26 (k0_t2 : Fin k0_t2_loop.trips) : Fin 3 → Nat :=
  let c1_i32_268 : BitVec 32 := 1#32
  let v375 : Index := Scalar.indexCast c1_i32_268
  let c0_i32_57 : BitVec 32 := 0#32
  let c1_i32_59 : BitVec 32 := 1#32
  let arg8 : BitVec 32 := Scf.iv c0_i32_57 c1_i32_59 k0_t2
  let v376 : Index := Scalar.indexCast arg8
  let c128_269 : Index := 128#32
  ![1, v376.toNat, 128]
def k0_off27 (k0_t2 : Fin k0_t2_loop.trips) : Fin 3 → Nat :=
  let c1_i32_270 : BitVec 32 := 1#32
  let v380 : Index := Scalar.indexCast c1_i32_270
  let c0_i32_57 : BitVec 32 := 0#32
  let c1_i32_59 : BitVec 32 := 1#32
  let arg8 : BitVec 32 := Scf.iv c0_i32_57 c1_i32_59 k0_t2
  let v381 : Index := Scalar.indexCast arg8
  let c144_271 : Index := 144#32
  ![1, v381.toNat, 144]
def k0_off28 (k0_t2 : Fin k0_t2_loop.trips) : Fin 3 → Nat :=
  let c1_i32_272 : BitVec 32 := 1#32
  let v385 : Index := Scalar.indexCast c1_i32_272
  let c0_i32_57 : BitVec 32 := 0#32
  let c1_i32_59 : BitVec 32 := 1#32
  let arg8 : BitVec 32 := Scf.iv c0_i32_57 c1_i32_59 k0_t2
  let v386 : Index := Scalar.indexCast arg8
  let c160_273 : Index := 160#32
  ![1, v386.toNat, 160]
def k0_off29 (k0_t2 : Fin k0_t2_loop.trips) : Fin 3 → Nat :=
  let c1_i32_274 : BitVec 32 := 1#32
  let v390 : Index := Scalar.indexCast c1_i32_274
  let c0_i32_57 : BitVec 32 := 0#32
  let c1_i32_59 : BitVec 32 := 1#32
  let arg8 : BitVec 32 := Scf.iv c0_i32_57 c1_i32_59 k0_t2
  let v391 : Index := Scalar.indexCast arg8
  let c176_275 : Index := 176#32
  ![1, v391.toNat, 176]
def k0_off30 (k0_t2 : Fin k0_t2_loop.trips) : Fin 3 → Nat :=
  let c1_i32_276 : BitVec 32 := 1#32
  let v395 : Index := Scalar.indexCast c1_i32_276
  let c0_i32_57 : BitVec 32 := 0#32
  let c1_i32_59 : BitVec 32 := 1#32
  let arg8 : BitVec 32 := Scf.iv c0_i32_57 c1_i32_59 k0_t2
  let v396 : Index := Scalar.indexCast arg8
  let c192_277 : Index := 192#32
  ![1, v396.toNat, 192]
def k0_off31 (k0_t2 : Fin k0_t2_loop.trips) : Fin 3 → Nat :=
  let c1_i32_278 : BitVec 32 := 1#32
  let v400 : Index := Scalar.indexCast c1_i32_278
  let c0_i32_57 : BitVec 32 := 0#32
  let c1_i32_59 : BitVec 32 := 1#32
  let arg8 : BitVec 32 := Scf.iv c0_i32_57 c1_i32_59 k0_t2
  let v401 : Index := Scalar.indexCast arg8
  let c208_279 : Index := 208#32
  ![1, v401.toNat, 208]
def k0_off32 (k0_t2 : Fin k0_t2_loop.trips) : Fin 3 → Nat :=
  let c1_i32_280 : BitVec 32 := 1#32
  let v405 : Index := Scalar.indexCast c1_i32_280
  let c0_i32_57 : BitVec 32 := 0#32
  let c1_i32_59 : BitVec 32 := 1#32
  let arg8 : BitVec 32 := Scf.iv c0_i32_57 c1_i32_59 k0_t2
  let v406 : Index := Scalar.indexCast arg8
  let c224_281 : Index := 224#32
  ![1, v406.toNat, 224]
def k0_off33 (k0_t2 : Fin k0_t2_loop.trips) : Fin 3 → Nat :=
  let c1_i32_282 : BitVec 32 := 1#32
  let v410 : Index := Scalar.indexCast c1_i32_282
  let c0_i32_57 : BitVec 32 := 0#32
  let c1_i32_59 : BitVec 32 := 1#32
  let arg8 : BitVec 32 := Scf.iv c0_i32_57 c1_i32_59 k0_t2
  let v411 : Index := Scalar.indexCast arg8
  let c240_283 : Index := 240#32
  ![1, v411.toNat, 240]
@[reducible] def k0_t3_loop : Scf.Loop 32 :=
  let c0_i32_71 : BitVec 32 := 0#32
  let c128_i32_72 : BitVec 32 := 128#32
  let v97 : BitVec 32 := Scalar.addi c0_i32_71 c128_i32_72
  let c1_i32_73 : BitVec 32 := 1#32
  ⟨c0_i32_71, v97, c1_i32_73⟩
def k0_off34 (k0_t3 : Fin k0_t3_loop.trips) : Fin 3 → Nat :=
  let c0_i32_252 : BitVec 32 := 0#32
  let v335 : Index := Scalar.indexCast c0_i32_252
  let c0_i32_71 : BitVec 32 := 0#32
  let c1_i32_73 : BitVec 32 := 1#32
  let arg8 : BitVec 32 := Scf.iv c0_i32_71 c1_i32_73 k0_t3
  let v336 : Index := Scalar.indexCast arg8
  let c0_253 : Index := 0#32
  ![0, v336.toNat, 0]
def k0_off35 (k0_t3 : Fin k0_t3_loop.trips) : Fin 3 → Nat :=
  let c0_i32_254 : BitVec 32 := 0#32
  let v340 : Index := Scalar.indexCast c0_i32_254
  let c0_i32_71 : BitVec 32 := 0#32
  let c1_i32_73 : BitVec 32 := 1#32
  let arg8 : BitVec 32 := Scf.iv c0_i32_71 c1_i32_73 k0_t3
  let v341 : Index := Scalar.indexCast arg8
  let c16_255 : Index := 16#32
  ![0, v341.toNat, 16]
def k0_off36 (k0_t3 : Fin k0_t3_loop.trips) : Fin 3 → Nat :=
  let c0_i32_256 : BitVec 32 := 0#32
  let v345 : Index := Scalar.indexCast c0_i32_256
  let c0_i32_71 : BitVec 32 := 0#32
  let c1_i32_73 : BitVec 32 := 1#32
  let arg8 : BitVec 32 := Scf.iv c0_i32_71 c1_i32_73 k0_t3
  let v346 : Index := Scalar.indexCast arg8
  let c32_257 : Index := 32#32
  ![0, v346.toNat, 32]
def k0_off37 (k0_t3 : Fin k0_t3_loop.trips) : Fin 3 → Nat :=
  let c0_i32_258 : BitVec 32 := 0#32
  let v350 : Index := Scalar.indexCast c0_i32_258
  let c0_i32_71 : BitVec 32 := 0#32
  let c1_i32_73 : BitVec 32 := 1#32
  let arg8 : BitVec 32 := Scf.iv c0_i32_71 c1_i32_73 k0_t3
  let v351 : Index := Scalar.indexCast arg8
  let c48_259 : Index := 48#32
  ![0, v351.toNat, 48]
def k0_off38 (k0_t3 : Fin k0_t3_loop.trips) : Fin 3 → Nat :=
  let c0_i32_260 : BitVec 32 := 0#32
  let v355 : Index := Scalar.indexCast c0_i32_260
  let c0_i32_71 : BitVec 32 := 0#32
  let c1_i32_73 : BitVec 32 := 1#32
  let arg8 : BitVec 32 := Scf.iv c0_i32_71 c1_i32_73 k0_t3
  let v356 : Index := Scalar.indexCast arg8
  let c64_261 : Index := 64#32
  ![0, v356.toNat, 64]
def k0_off39 (k0_t3 : Fin k0_t3_loop.trips) : Fin 3 → Nat :=
  let c0_i32_262 : BitVec 32 := 0#32
  let v360 : Index := Scalar.indexCast c0_i32_262
  let c0_i32_71 : BitVec 32 := 0#32
  let c1_i32_73 : BitVec 32 := 1#32
  let arg8 : BitVec 32 := Scf.iv c0_i32_71 c1_i32_73 k0_t3
  let v361 : Index := Scalar.indexCast arg8
  let c80_263 : Index := 80#32
  ![0, v361.toNat, 80]
def k0_off40 (k0_t3 : Fin k0_t3_loop.trips) : Fin 3 → Nat :=
  let c0_i32_264 : BitVec 32 := 0#32
  let v365 : Index := Scalar.indexCast c0_i32_264
  let c0_i32_71 : BitVec 32 := 0#32
  let c1_i32_73 : BitVec 32 := 1#32
  let arg8 : BitVec 32 := Scf.iv c0_i32_71 c1_i32_73 k0_t3
  let v366 : Index := Scalar.indexCast arg8
  let c96_265 : Index := 96#32
  ![0, v366.toNat, 96]
def k0_off41 (k0_t3 : Fin k0_t3_loop.trips) : Fin 3 → Nat :=
  let c0_i32_266 : BitVec 32 := 0#32
  let v370 : Index := Scalar.indexCast c0_i32_266
  let c0_i32_71 : BitVec 32 := 0#32
  let c1_i32_73 : BitVec 32 := 1#32
  let arg8 : BitVec 32 := Scf.iv c0_i32_71 c1_i32_73 k0_t3
  let v371 : Index := Scalar.indexCast arg8
  let c112_267 : Index := 112#32
  ![0, v371.toNat, 112]
def k0_off42 (k0_t3 : Fin k0_t3_loop.trips) : Fin 3 → Nat :=
  let c0_i32_268 : BitVec 32 := 0#32
  let v375 : Index := Scalar.indexCast c0_i32_268
  let c0_i32_71 : BitVec 32 := 0#32
  let c1_i32_73 : BitVec 32 := 1#32
  let arg8 : BitVec 32 := Scf.iv c0_i32_71 c1_i32_73 k0_t3
  let v376 : Index := Scalar.indexCast arg8
  let c128_269 : Index := 128#32
  ![0, v376.toNat, 128]
def k0_off43 (k0_t3 : Fin k0_t3_loop.trips) : Fin 3 → Nat :=
  let c0_i32_270 : BitVec 32 := 0#32
  let v380 : Index := Scalar.indexCast c0_i32_270
  let c0_i32_71 : BitVec 32 := 0#32
  let c1_i32_73 : BitVec 32 := 1#32
  let arg8 : BitVec 32 := Scf.iv c0_i32_71 c1_i32_73 k0_t3
  let v381 : Index := Scalar.indexCast arg8
  let c144_271 : Index := 144#32
  ![0, v381.toNat, 144]
def k0_off44 (k0_t3 : Fin k0_t3_loop.trips) : Fin 3 → Nat :=
  let c0_i32_272 : BitVec 32 := 0#32
  let v385 : Index := Scalar.indexCast c0_i32_272
  let c0_i32_71 : BitVec 32 := 0#32
  let c1_i32_73 : BitVec 32 := 1#32
  let arg8 : BitVec 32 := Scf.iv c0_i32_71 c1_i32_73 k0_t3
  let v386 : Index := Scalar.indexCast arg8
  let c160_273 : Index := 160#32
  ![0, v386.toNat, 160]
def k0_off45 (k0_t3 : Fin k0_t3_loop.trips) : Fin 3 → Nat :=
  let c0_i32_274 : BitVec 32 := 0#32
  let v390 : Index := Scalar.indexCast c0_i32_274
  let c0_i32_71 : BitVec 32 := 0#32
  let c1_i32_73 : BitVec 32 := 1#32
  let arg8 : BitVec 32 := Scf.iv c0_i32_71 c1_i32_73 k0_t3
  let v391 : Index := Scalar.indexCast arg8
  let c176_275 : Index := 176#32
  ![0, v391.toNat, 176]
def k0_off46 (k0_t3 : Fin k0_t3_loop.trips) : Fin 3 → Nat :=
  let c0_i32_276 : BitVec 32 := 0#32
  let v395 : Index := Scalar.indexCast c0_i32_276
  let c0_i32_71 : BitVec 32 := 0#32
  let c1_i32_73 : BitVec 32 := 1#32
  let arg8 : BitVec 32 := Scf.iv c0_i32_71 c1_i32_73 k0_t3
  let v396 : Index := Scalar.indexCast arg8
  let c192_277 : Index := 192#32
  ![0, v396.toNat, 192]
def k0_off47 (k0_t3 : Fin k0_t3_loop.trips) : Fin 3 → Nat :=
  let c0_i32_278 : BitVec 32 := 0#32
  let v400 : Index := Scalar.indexCast c0_i32_278
  let c0_i32_71 : BitVec 32 := 0#32
  let c1_i32_73 : BitVec 32 := 1#32
  let arg8 : BitVec 32 := Scf.iv c0_i32_71 c1_i32_73 k0_t3
  let v401 : Index := Scalar.indexCast arg8
  let c208_279 : Index := 208#32
  ![0, v401.toNat, 208]
def k0_off48 (k0_t3 : Fin k0_t3_loop.trips) : Fin 3 → Nat :=
  let c0_i32_280 : BitVec 32 := 0#32
  let v405 : Index := Scalar.indexCast c0_i32_280
  let c0_i32_71 : BitVec 32 := 0#32
  let c1_i32_73 : BitVec 32 := 1#32
  let arg8 : BitVec 32 := Scf.iv c0_i32_71 c1_i32_73 k0_t3
  let v406 : Index := Scalar.indexCast arg8
  let c224_281 : Index := 224#32
  ![0, v406.toNat, 224]
def k0_off49 (k0_t3 : Fin k0_t3_loop.trips) : Fin 3 → Nat :=
  let c0_i32_282 : BitVec 32 := 0#32
  let v410 : Index := Scalar.indexCast c0_i32_282
  let c0_i32_71 : BitVec 32 := 0#32
  let c1_i32_73 : BitVec 32 := 1#32
  let arg8 : BitVec 32 := Scf.iv c0_i32_71 c1_i32_73 k0_t3
  let v411 : Index := Scalar.indexCast arg8
  let c240_283 : Index := 240#32
  ![0, v411.toNat, 240]
@[reducible] def k0_t4_loop : Scf.Loop 32 :=
  let c0_i32_85 : BitVec 32 := 0#32
  let c128_i32_86 : BitVec 32 := 128#32
  let v112 : BitVec 32 := Scalar.addi c0_i32_85 c128_i32_86
  let c1_i32_87 : BitVec 32 := 1#32
  ⟨c0_i32_85, v112, c1_i32_87⟩
def k0_off50 (k0_t4 : Fin k0_t4_loop.trips) : Fin 3 → Nat :=
  let c1_i32_252 : BitVec 32 := 1#32
  let v335 : Index := Scalar.indexCast c1_i32_252
  let c0_i32_85 : BitVec 32 := 0#32
  let c1_i32_87 : BitVec 32 := 1#32
  let arg8 : BitVec 32 := Scf.iv c0_i32_85 c1_i32_87 k0_t4
  let v336 : Index := Scalar.indexCast arg8
  let c0_253 : Index := 0#32
  ![1, v336.toNat, 0]
def k0_off51 (k0_t4 : Fin k0_t4_loop.trips) : Fin 3 → Nat :=
  let c1_i32_254 : BitVec 32 := 1#32
  let v340 : Index := Scalar.indexCast c1_i32_254
  let c0_i32_85 : BitVec 32 := 0#32
  let c1_i32_87 : BitVec 32 := 1#32
  let arg8 : BitVec 32 := Scf.iv c0_i32_85 c1_i32_87 k0_t4
  let v341 : Index := Scalar.indexCast arg8
  let c16_255 : Index := 16#32
  ![1, v341.toNat, 16]
def k0_off52 (k0_t4 : Fin k0_t4_loop.trips) : Fin 3 → Nat :=
  let c1_i32_256 : BitVec 32 := 1#32
  let v345 : Index := Scalar.indexCast c1_i32_256
  let c0_i32_85 : BitVec 32 := 0#32
  let c1_i32_87 : BitVec 32 := 1#32
  let arg8 : BitVec 32 := Scf.iv c0_i32_85 c1_i32_87 k0_t4
  let v346 : Index := Scalar.indexCast arg8
  let c32_257 : Index := 32#32
  ![1, v346.toNat, 32]
def k0_off53 (k0_t4 : Fin k0_t4_loop.trips) : Fin 3 → Nat :=
  let c1_i32_258 : BitVec 32 := 1#32
  let v350 : Index := Scalar.indexCast c1_i32_258
  let c0_i32_85 : BitVec 32 := 0#32
  let c1_i32_87 : BitVec 32 := 1#32
  let arg8 : BitVec 32 := Scf.iv c0_i32_85 c1_i32_87 k0_t4
  let v351 : Index := Scalar.indexCast arg8
  let c48_259 : Index := 48#32
  ![1, v351.toNat, 48]
def k0_off54 (k0_t4 : Fin k0_t4_loop.trips) : Fin 3 → Nat :=
  let c1_i32_260 : BitVec 32 := 1#32
  let v355 : Index := Scalar.indexCast c1_i32_260
  let c0_i32_85 : BitVec 32 := 0#32
  let c1_i32_87 : BitVec 32 := 1#32
  let arg8 : BitVec 32 := Scf.iv c0_i32_85 c1_i32_87 k0_t4
  let v356 : Index := Scalar.indexCast arg8
  let c64_261 : Index := 64#32
  ![1, v356.toNat, 64]
def k0_off55 (k0_t4 : Fin k0_t4_loop.trips) : Fin 3 → Nat :=
  let c1_i32_262 : BitVec 32 := 1#32
  let v360 : Index := Scalar.indexCast c1_i32_262
  let c0_i32_85 : BitVec 32 := 0#32
  let c1_i32_87 : BitVec 32 := 1#32
  let arg8 : BitVec 32 := Scf.iv c0_i32_85 c1_i32_87 k0_t4
  let v361 : Index := Scalar.indexCast arg8
  let c80_263 : Index := 80#32
  ![1, v361.toNat, 80]
def k0_off56 (k0_t4 : Fin k0_t4_loop.trips) : Fin 3 → Nat :=
  let c1_i32_264 : BitVec 32 := 1#32
  let v365 : Index := Scalar.indexCast c1_i32_264
  let c0_i32_85 : BitVec 32 := 0#32
  let c1_i32_87 : BitVec 32 := 1#32
  let arg8 : BitVec 32 := Scf.iv c0_i32_85 c1_i32_87 k0_t4
  let v366 : Index := Scalar.indexCast arg8
  let c96_265 : Index := 96#32
  ![1, v366.toNat, 96]
def k0_off57 (k0_t4 : Fin k0_t4_loop.trips) : Fin 3 → Nat :=
  let c1_i32_266 : BitVec 32 := 1#32
  let v370 : Index := Scalar.indexCast c1_i32_266
  let c0_i32_85 : BitVec 32 := 0#32
  let c1_i32_87 : BitVec 32 := 1#32
  let arg8 : BitVec 32 := Scf.iv c0_i32_85 c1_i32_87 k0_t4
  let v371 : Index := Scalar.indexCast arg8
  let c112_267 : Index := 112#32
  ![1, v371.toNat, 112]
def k0_off58 (k0_t4 : Fin k0_t4_loop.trips) : Fin 3 → Nat :=
  let c1_i32_268 : BitVec 32 := 1#32
  let v375 : Index := Scalar.indexCast c1_i32_268
  let c0_i32_85 : BitVec 32 := 0#32
  let c1_i32_87 : BitVec 32 := 1#32
  let arg8 : BitVec 32 := Scf.iv c0_i32_85 c1_i32_87 k0_t4
  let v376 : Index := Scalar.indexCast arg8
  let c128_269 : Index := 128#32
  ![1, v376.toNat, 128]
def k0_off59 (k0_t4 : Fin k0_t4_loop.trips) : Fin 3 → Nat :=
  let c1_i32_270 : BitVec 32 := 1#32
  let v380 : Index := Scalar.indexCast c1_i32_270
  let c0_i32_85 : BitVec 32 := 0#32
  let c1_i32_87 : BitVec 32 := 1#32
  let arg8 : BitVec 32 := Scf.iv c0_i32_85 c1_i32_87 k0_t4
  let v381 : Index := Scalar.indexCast arg8
  let c144_271 : Index := 144#32
  ![1, v381.toNat, 144]
def k0_off60 (k0_t4 : Fin k0_t4_loop.trips) : Fin 3 → Nat :=
  let c1_i32_272 : BitVec 32 := 1#32
  let v385 : Index := Scalar.indexCast c1_i32_272
  let c0_i32_85 : BitVec 32 := 0#32
  let c1_i32_87 : BitVec 32 := 1#32
  let arg8 : BitVec 32 := Scf.iv c0_i32_85 c1_i32_87 k0_t4
  let v386 : Index := Scalar.indexCast arg8
  let c160_273 : Index := 160#32
  ![1, v386.toNat, 160]
def k0_off61 (k0_t4 : Fin k0_t4_loop.trips) : Fin 3 → Nat :=
  let c1_i32_274 : BitVec 32 := 1#32
  let v390 : Index := Scalar.indexCast c1_i32_274
  let c0_i32_85 : BitVec 32 := 0#32
  let c1_i32_87 : BitVec 32 := 1#32
  let arg8 : BitVec 32 := Scf.iv c0_i32_85 c1_i32_87 k0_t4
  let v391 : Index := Scalar.indexCast arg8
  let c176_275 : Index := 176#32
  ![1, v391.toNat, 176]
def k0_off62 (k0_t4 : Fin k0_t4_loop.trips) : Fin 3 → Nat :=
  let c1_i32_276 : BitVec 32 := 1#32
  let v395 : Index := Scalar.indexCast c1_i32_276
  let c0_i32_85 : BitVec 32 := 0#32
  let c1_i32_87 : BitVec 32 := 1#32
  let arg8 : BitVec 32 := Scf.iv c0_i32_85 c1_i32_87 k0_t4
  let v396 : Index := Scalar.indexCast arg8
  let c192_277 : Index := 192#32
  ![1, v396.toNat, 192]
def k0_off63 (k0_t4 : Fin k0_t4_loop.trips) : Fin 3 → Nat :=
  let c1_i32_278 : BitVec 32 := 1#32
  let v400 : Index := Scalar.indexCast c1_i32_278
  let c0_i32_85 : BitVec 32 := 0#32
  let c1_i32_87 : BitVec 32 := 1#32
  let arg8 : BitVec 32 := Scf.iv c0_i32_85 c1_i32_87 k0_t4
  let v401 : Index := Scalar.indexCast arg8
  let c208_279 : Index := 208#32
  ![1, v401.toNat, 208]
def k0_off64 (k0_t4 : Fin k0_t4_loop.trips) : Fin 3 → Nat :=
  let c1_i32_280 : BitVec 32 := 1#32
  let v405 : Index := Scalar.indexCast c1_i32_280
  let c0_i32_85 : BitVec 32 := 0#32
  let c1_i32_87 : BitVec 32 := 1#32
  let arg8 : BitVec 32 := Scf.iv c0_i32_85 c1_i32_87 k0_t4
  let v406 : Index := Scalar.indexCast arg8
  let c224_281 : Index := 224#32
  ![1, v406.toNat, 224]
def k0_off65 (k0_t4 : Fin k0_t4_loop.trips) : Fin 3 → Nat :=
  let c1_i32_282 : BitVec 32 := 1#32
  let v410 : Index := Scalar.indexCast c1_i32_282
  let c0_i32_85 : BitVec 32 := 0#32
  let c1_i32_87 : BitVec 32 := 1#32
  let arg8 : BitVec 32 := Scf.iv c0_i32_85 c1_i32_87 k0_t4
  let v411 : Index := Scalar.indexCast arg8
  let c240_283 : Index := 240#32
  ![1, v411.toNat, 240]
@[reducible] def k0_t5_loop : Scf.Loop 32 :=
  let c0_i32_99 : BitVec 32 := 0#32
  let c128_i32_100 : BitVec 32 := 128#32
  let v127 : BitVec 32 := Scalar.addi c0_i32_99 c128_i32_100
  let c1_i32_101 : BitVec 32 := 1#32
  ⟨c0_i32_99, v127, c1_i32_101⟩
def k0_off66 (k0_t5 : Fin k0_t5_loop.trips) : Fin 3 → Nat :=
  let c0_i32_252 : BitVec 32 := 0#32
  let v335 : Index := Scalar.indexCast c0_i32_252
  let c0_i32_99 : BitVec 32 := 0#32
  let c1_i32_101 : BitVec 32 := 1#32
  let arg8 : BitVec 32 := Scf.iv c0_i32_99 c1_i32_101 k0_t5
  let v336 : Index := Scalar.indexCast arg8
  let c0_253 : Index := 0#32
  ![0, v336.toNat, 0]
def k0_off67 (k0_t5 : Fin k0_t5_loop.trips) : Fin 3 → Nat :=
  let c0_i32_254 : BitVec 32 := 0#32
  let v340 : Index := Scalar.indexCast c0_i32_254
  let c0_i32_99 : BitVec 32 := 0#32
  let c1_i32_101 : BitVec 32 := 1#32
  let arg8 : BitVec 32 := Scf.iv c0_i32_99 c1_i32_101 k0_t5
  let v341 : Index := Scalar.indexCast arg8
  let c16_255 : Index := 16#32
  ![0, v341.toNat, 16]
def k0_off68 (k0_t5 : Fin k0_t5_loop.trips) : Fin 3 → Nat :=
  let c0_i32_256 : BitVec 32 := 0#32
  let v345 : Index := Scalar.indexCast c0_i32_256
  let c0_i32_99 : BitVec 32 := 0#32
  let c1_i32_101 : BitVec 32 := 1#32
  let arg8 : BitVec 32 := Scf.iv c0_i32_99 c1_i32_101 k0_t5
  let v346 : Index := Scalar.indexCast arg8
  let c32_257 : Index := 32#32
  ![0, v346.toNat, 32]
def k0_off69 (k0_t5 : Fin k0_t5_loop.trips) : Fin 3 → Nat :=
  let c0_i32_258 : BitVec 32 := 0#32
  let v350 : Index := Scalar.indexCast c0_i32_258
  let c0_i32_99 : BitVec 32 := 0#32
  let c1_i32_101 : BitVec 32 := 1#32
  let arg8 : BitVec 32 := Scf.iv c0_i32_99 c1_i32_101 k0_t5
  let v351 : Index := Scalar.indexCast arg8
  let c48_259 : Index := 48#32
  ![0, v351.toNat, 48]
def k0_off70 (k0_t5 : Fin k0_t5_loop.trips) : Fin 3 → Nat :=
  let c0_i32_260 : BitVec 32 := 0#32
  let v355 : Index := Scalar.indexCast c0_i32_260
  let c0_i32_99 : BitVec 32 := 0#32
  let c1_i32_101 : BitVec 32 := 1#32
  let arg8 : BitVec 32 := Scf.iv c0_i32_99 c1_i32_101 k0_t5
  let v356 : Index := Scalar.indexCast arg8
  let c64_261 : Index := 64#32
  ![0, v356.toNat, 64]
def k0_off71 (k0_t5 : Fin k0_t5_loop.trips) : Fin 3 → Nat :=
  let c0_i32_262 : BitVec 32 := 0#32
  let v360 : Index := Scalar.indexCast c0_i32_262
  let c0_i32_99 : BitVec 32 := 0#32
  let c1_i32_101 : BitVec 32 := 1#32
  let arg8 : BitVec 32 := Scf.iv c0_i32_99 c1_i32_101 k0_t5
  let v361 : Index := Scalar.indexCast arg8
  let c80_263 : Index := 80#32
  ![0, v361.toNat, 80]
def k0_off72 (k0_t5 : Fin k0_t5_loop.trips) : Fin 3 → Nat :=
  let c0_i32_264 : BitVec 32 := 0#32
  let v365 : Index := Scalar.indexCast c0_i32_264
  let c0_i32_99 : BitVec 32 := 0#32
  let c1_i32_101 : BitVec 32 := 1#32
  let arg8 : BitVec 32 := Scf.iv c0_i32_99 c1_i32_101 k0_t5
  let v366 : Index := Scalar.indexCast arg8
  let c96_265 : Index := 96#32
  ![0, v366.toNat, 96]
def k0_off73 (k0_t5 : Fin k0_t5_loop.trips) : Fin 3 → Nat :=
  let c0_i32_266 : BitVec 32 := 0#32
  let v370 : Index := Scalar.indexCast c0_i32_266
  let c0_i32_99 : BitVec 32 := 0#32
  let c1_i32_101 : BitVec 32 := 1#32
  let arg8 : BitVec 32 := Scf.iv c0_i32_99 c1_i32_101 k0_t5
  let v371 : Index := Scalar.indexCast arg8
  let c112_267 : Index := 112#32
  ![0, v371.toNat, 112]
def k0_off74 (k0_t5 : Fin k0_t5_loop.trips) : Fin 3 → Nat :=
  let c0_i32_268 : BitVec 32 := 0#32
  let v375 : Index := Scalar.indexCast c0_i32_268
  let c0_i32_99 : BitVec 32 := 0#32
  let c1_i32_101 : BitVec 32 := 1#32
  let arg8 : BitVec 32 := Scf.iv c0_i32_99 c1_i32_101 k0_t5
  let v376 : Index := Scalar.indexCast arg8
  let c128_269 : Index := 128#32
  ![0, v376.toNat, 128]
def k0_off75 (k0_t5 : Fin k0_t5_loop.trips) : Fin 3 → Nat :=
  let c0_i32_270 : BitVec 32 := 0#32
  let v380 : Index := Scalar.indexCast c0_i32_270
  let c0_i32_99 : BitVec 32 := 0#32
  let c1_i32_101 : BitVec 32 := 1#32
  let arg8 : BitVec 32 := Scf.iv c0_i32_99 c1_i32_101 k0_t5
  let v381 : Index := Scalar.indexCast arg8
  let c144_271 : Index := 144#32
  ![0, v381.toNat, 144]
def k0_off76 (k0_t5 : Fin k0_t5_loop.trips) : Fin 3 → Nat :=
  let c0_i32_272 : BitVec 32 := 0#32
  let v385 : Index := Scalar.indexCast c0_i32_272
  let c0_i32_99 : BitVec 32 := 0#32
  let c1_i32_101 : BitVec 32 := 1#32
  let arg8 : BitVec 32 := Scf.iv c0_i32_99 c1_i32_101 k0_t5
  let v386 : Index := Scalar.indexCast arg8
  let c160_273 : Index := 160#32
  ![0, v386.toNat, 160]
def k0_off77 (k0_t5 : Fin k0_t5_loop.trips) : Fin 3 → Nat :=
  let c0_i32_274 : BitVec 32 := 0#32
  let v390 : Index := Scalar.indexCast c0_i32_274
  let c0_i32_99 : BitVec 32 := 0#32
  let c1_i32_101 : BitVec 32 := 1#32
  let arg8 : BitVec 32 := Scf.iv c0_i32_99 c1_i32_101 k0_t5
  let v391 : Index := Scalar.indexCast arg8
  let c176_275 : Index := 176#32
  ![0, v391.toNat, 176]
def k0_off78 (k0_t5 : Fin k0_t5_loop.trips) : Fin 3 → Nat :=
  let c0_i32_276 : BitVec 32 := 0#32
  let v395 : Index := Scalar.indexCast c0_i32_276
  let c0_i32_99 : BitVec 32 := 0#32
  let c1_i32_101 : BitVec 32 := 1#32
  let arg8 : BitVec 32 := Scf.iv c0_i32_99 c1_i32_101 k0_t5
  let v396 : Index := Scalar.indexCast arg8
  let c192_277 : Index := 192#32
  ![0, v396.toNat, 192]
def k0_off79 (k0_t5 : Fin k0_t5_loop.trips) : Fin 3 → Nat :=
  let c0_i32_278 : BitVec 32 := 0#32
  let v400 : Index := Scalar.indexCast c0_i32_278
  let c0_i32_99 : BitVec 32 := 0#32
  let c1_i32_101 : BitVec 32 := 1#32
  let arg8 : BitVec 32 := Scf.iv c0_i32_99 c1_i32_101 k0_t5
  let v401 : Index := Scalar.indexCast arg8
  let c208_279 : Index := 208#32
  ![0, v401.toNat, 208]
def k0_off80 (k0_t5 : Fin k0_t5_loop.trips) : Fin 3 → Nat :=
  let c0_i32_280 : BitVec 32 := 0#32
  let v405 : Index := Scalar.indexCast c0_i32_280
  let c0_i32_99 : BitVec 32 := 0#32
  let c1_i32_101 : BitVec 32 := 1#32
  let arg8 : BitVec 32 := Scf.iv c0_i32_99 c1_i32_101 k0_t5
  let v406 : Index := Scalar.indexCast arg8
  let c224_281 : Index := 224#32
  ![0, v406.toNat, 224]
def k0_off81 (k0_t5 : Fin k0_t5_loop.trips) : Fin 3 → Nat :=
  let c0_i32_282 : BitVec 32 := 0#32
  let v410 : Index := Scalar.indexCast c0_i32_282
  let c0_i32_99 : BitVec 32 := 0#32
  let c1_i32_101 : BitVec 32 := 1#32
  let arg8 : BitVec 32 := Scf.iv c0_i32_99 c1_i32_101 k0_t5
  let v411 : Index := Scalar.indexCast arg8
  let c240_283 : Index := 240#32
  ![0, v411.toNat, 240]
@[reducible] def k0_t6_loop : Scf.Loop 32 :=
  let c0_i32_113 : BitVec 32 := 0#32
  let c128_i32_114 : BitVec 32 := 128#32
  let v142 : BitVec 32 := Scalar.addi c0_i32_113 c128_i32_114
  let c1_i32_115 : BitVec 32 := 1#32
  ⟨c0_i32_113, v142, c1_i32_115⟩
def k0_off82 (k0_t6 : Fin k0_t6_loop.trips) : Fin 3 → Nat :=
  let c1_i32_252 : BitVec 32 := 1#32
  let v335 : Index := Scalar.indexCast c1_i32_252
  let c0_i32_113 : BitVec 32 := 0#32
  let c1_i32_115 : BitVec 32 := 1#32
  let arg8 : BitVec 32 := Scf.iv c0_i32_113 c1_i32_115 k0_t6
  let v336 : Index := Scalar.indexCast arg8
  let c0_253 : Index := 0#32
  ![1, v336.toNat, 0]
def k0_off83 (k0_t6 : Fin k0_t6_loop.trips) : Fin 3 → Nat :=
  let c1_i32_254 : BitVec 32 := 1#32
  let v340 : Index := Scalar.indexCast c1_i32_254
  let c0_i32_113 : BitVec 32 := 0#32
  let c1_i32_115 : BitVec 32 := 1#32
  let arg8 : BitVec 32 := Scf.iv c0_i32_113 c1_i32_115 k0_t6
  let v341 : Index := Scalar.indexCast arg8
  let c16_255 : Index := 16#32
  ![1, v341.toNat, 16]
def k0_off84 (k0_t6 : Fin k0_t6_loop.trips) : Fin 3 → Nat :=
  let c1_i32_256 : BitVec 32 := 1#32
  let v345 : Index := Scalar.indexCast c1_i32_256
  let c0_i32_113 : BitVec 32 := 0#32
  let c1_i32_115 : BitVec 32 := 1#32
  let arg8 : BitVec 32 := Scf.iv c0_i32_113 c1_i32_115 k0_t6
  let v346 : Index := Scalar.indexCast arg8
  let c32_257 : Index := 32#32
  ![1, v346.toNat, 32]
def k0_off85 (k0_t6 : Fin k0_t6_loop.trips) : Fin 3 → Nat :=
  let c1_i32_258 : BitVec 32 := 1#32
  let v350 : Index := Scalar.indexCast c1_i32_258
  let c0_i32_113 : BitVec 32 := 0#32
  let c1_i32_115 : BitVec 32 := 1#32
  let arg8 : BitVec 32 := Scf.iv c0_i32_113 c1_i32_115 k0_t6
  let v351 : Index := Scalar.indexCast arg8
  let c48_259 : Index := 48#32
  ![1, v351.toNat, 48]
def k0_off86 (k0_t6 : Fin k0_t6_loop.trips) : Fin 3 → Nat :=
  let c1_i32_260 : BitVec 32 := 1#32
  let v355 : Index := Scalar.indexCast c1_i32_260
  let c0_i32_113 : BitVec 32 := 0#32
  let c1_i32_115 : BitVec 32 := 1#32
  let arg8 : BitVec 32 := Scf.iv c0_i32_113 c1_i32_115 k0_t6
  let v356 : Index := Scalar.indexCast arg8
  let c64_261 : Index := 64#32
  ![1, v356.toNat, 64]
def k0_off87 (k0_t6 : Fin k0_t6_loop.trips) : Fin 3 → Nat :=
  let c1_i32_262 : BitVec 32 := 1#32
  let v360 : Index := Scalar.indexCast c1_i32_262
  let c0_i32_113 : BitVec 32 := 0#32
  let c1_i32_115 : BitVec 32 := 1#32
  let arg8 : BitVec 32 := Scf.iv c0_i32_113 c1_i32_115 k0_t6
  let v361 : Index := Scalar.indexCast arg8
  let c80_263 : Index := 80#32
  ![1, v361.toNat, 80]
def k0_off88 (k0_t6 : Fin k0_t6_loop.trips) : Fin 3 → Nat :=
  let c1_i32_264 : BitVec 32 := 1#32
  let v365 : Index := Scalar.indexCast c1_i32_264
  let c0_i32_113 : BitVec 32 := 0#32
  let c1_i32_115 : BitVec 32 := 1#32
  let arg8 : BitVec 32 := Scf.iv c0_i32_113 c1_i32_115 k0_t6
  let v366 : Index := Scalar.indexCast arg8
  let c96_265 : Index := 96#32
  ![1, v366.toNat, 96]
def k0_off89 (k0_t6 : Fin k0_t6_loop.trips) : Fin 3 → Nat :=
  let c1_i32_266 : BitVec 32 := 1#32
  let v370 : Index := Scalar.indexCast c1_i32_266
  let c0_i32_113 : BitVec 32 := 0#32
  let c1_i32_115 : BitVec 32 := 1#32
  let arg8 : BitVec 32 := Scf.iv c0_i32_113 c1_i32_115 k0_t6
  let v371 : Index := Scalar.indexCast arg8
  let c112_267 : Index := 112#32
  ![1, v371.toNat, 112]
def k0_off90 (k0_t6 : Fin k0_t6_loop.trips) : Fin 3 → Nat :=
  let c1_i32_268 : BitVec 32 := 1#32
  let v375 : Index := Scalar.indexCast c1_i32_268
  let c0_i32_113 : BitVec 32 := 0#32
  let c1_i32_115 : BitVec 32 := 1#32
  let arg8 : BitVec 32 := Scf.iv c0_i32_113 c1_i32_115 k0_t6
  let v376 : Index := Scalar.indexCast arg8
  let c128_269 : Index := 128#32
  ![1, v376.toNat, 128]
def k0_off91 (k0_t6 : Fin k0_t6_loop.trips) : Fin 3 → Nat :=
  let c1_i32_270 : BitVec 32 := 1#32
  let v380 : Index := Scalar.indexCast c1_i32_270
  let c0_i32_113 : BitVec 32 := 0#32
  let c1_i32_115 : BitVec 32 := 1#32
  let arg8 : BitVec 32 := Scf.iv c0_i32_113 c1_i32_115 k0_t6
  let v381 : Index := Scalar.indexCast arg8
  let c144_271 : Index := 144#32
  ![1, v381.toNat, 144]
def k0_off92 (k0_t6 : Fin k0_t6_loop.trips) : Fin 3 → Nat :=
  let c1_i32_272 : BitVec 32 := 1#32
  let v385 : Index := Scalar.indexCast c1_i32_272
  let c0_i32_113 : BitVec 32 := 0#32
  let c1_i32_115 : BitVec 32 := 1#32
  let arg8 : BitVec 32 := Scf.iv c0_i32_113 c1_i32_115 k0_t6
  let v386 : Index := Scalar.indexCast arg8
  let c160_273 : Index := 160#32
  ![1, v386.toNat, 160]
def k0_off93 (k0_t6 : Fin k0_t6_loop.trips) : Fin 3 → Nat :=
  let c1_i32_274 : BitVec 32 := 1#32
  let v390 : Index := Scalar.indexCast c1_i32_274
  let c0_i32_113 : BitVec 32 := 0#32
  let c1_i32_115 : BitVec 32 := 1#32
  let arg8 : BitVec 32 := Scf.iv c0_i32_113 c1_i32_115 k0_t6
  let v391 : Index := Scalar.indexCast arg8
  let c176_275 : Index := 176#32
  ![1, v391.toNat, 176]
def k0_off94 (k0_t6 : Fin k0_t6_loop.trips) : Fin 3 → Nat :=
  let c1_i32_276 : BitVec 32 := 1#32
  let v395 : Index := Scalar.indexCast c1_i32_276
  let c0_i32_113 : BitVec 32 := 0#32
  let c1_i32_115 : BitVec 32 := 1#32
  let arg8 : BitVec 32 := Scf.iv c0_i32_113 c1_i32_115 k0_t6
  let v396 : Index := Scalar.indexCast arg8
  let c192_277 : Index := 192#32
  ![1, v396.toNat, 192]
def k0_off95 (k0_t6 : Fin k0_t6_loop.trips) : Fin 3 → Nat :=
  let c1_i32_278 : BitVec 32 := 1#32
  let v400 : Index := Scalar.indexCast c1_i32_278
  let c0_i32_113 : BitVec 32 := 0#32
  let c1_i32_115 : BitVec 32 := 1#32
  let arg8 : BitVec 32 := Scf.iv c0_i32_113 c1_i32_115 k0_t6
  let v401 : Index := Scalar.indexCast arg8
  let c208_279 : Index := 208#32
  ![1, v401.toNat, 208]
def k0_off96 (k0_t6 : Fin k0_t6_loop.trips) : Fin 3 → Nat :=
  let c1_i32_280 : BitVec 32 := 1#32
  let v405 : Index := Scalar.indexCast c1_i32_280
  let c0_i32_113 : BitVec 32 := 0#32
  let c1_i32_115 : BitVec 32 := 1#32
  let arg8 : BitVec 32 := Scf.iv c0_i32_113 c1_i32_115 k0_t6
  let v406 : Index := Scalar.indexCast arg8
  let c224_281 : Index := 224#32
  ![1, v406.toNat, 224]
def k0_off97 (k0_t6 : Fin k0_t6_loop.trips) : Fin 3 → Nat :=
  let c1_i32_282 : BitVec 32 := 1#32
  let v410 : Index := Scalar.indexCast c1_i32_282
  let c0_i32_113 : BitVec 32 := 0#32
  let c1_i32_115 : BitVec 32 := 1#32
  let arg8 : BitVec 32 := Scf.iv c0_i32_113 c1_i32_115 k0_t6
  let v411 : Index := Scalar.indexCast arg8
  let c240_283 : Index := 240#32
  ![1, v411.toNat, 240]
@[reducible] def k0_t7_loop : Scf.Loop 32 :=
  let c0_i32_127 : BitVec 32 := 0#32
  let c128_i32_128 : BitVec 32 := 128#32
  let v157 : BitVec 32 := Scalar.addi c0_i32_127 c128_i32_128
  let c1_i32_129 : BitVec 32 := 1#32
  ⟨c0_i32_127, v157, c1_i32_129⟩
def k0_off98 (k0_t7 : Fin k0_t7_loop.trips) : Fin 3 → Nat :=
  let c0_i32_252 : BitVec 32 := 0#32
  let v335 : Index := Scalar.indexCast c0_i32_252
  let c0_i32_127 : BitVec 32 := 0#32
  let c1_i32_129 : BitVec 32 := 1#32
  let arg8 : BitVec 32 := Scf.iv c0_i32_127 c1_i32_129 k0_t7
  let v336 : Index := Scalar.indexCast arg8
  let c0_253 : Index := 0#32
  ![0, v336.toNat, 0]
def k0_off99 (k0_t7 : Fin k0_t7_loop.trips) : Fin 3 → Nat :=
  let c0_i32_254 : BitVec 32 := 0#32
  let v340 : Index := Scalar.indexCast c0_i32_254
  let c0_i32_127 : BitVec 32 := 0#32
  let c1_i32_129 : BitVec 32 := 1#32
  let arg8 : BitVec 32 := Scf.iv c0_i32_127 c1_i32_129 k0_t7
  let v341 : Index := Scalar.indexCast arg8
  let c16_255 : Index := 16#32
  ![0, v341.toNat, 16]
def k0_off100 (k0_t7 : Fin k0_t7_loop.trips) : Fin 3 → Nat :=
  let c0_i32_256 : BitVec 32 := 0#32
  let v345 : Index := Scalar.indexCast c0_i32_256
  let c0_i32_127 : BitVec 32 := 0#32
  let c1_i32_129 : BitVec 32 := 1#32
  let arg8 : BitVec 32 := Scf.iv c0_i32_127 c1_i32_129 k0_t7
  let v346 : Index := Scalar.indexCast arg8
  let c32_257 : Index := 32#32
  ![0, v346.toNat, 32]
def k0_off101 (k0_t7 : Fin k0_t7_loop.trips) : Fin 3 → Nat :=
  let c0_i32_258 : BitVec 32 := 0#32
  let v350 : Index := Scalar.indexCast c0_i32_258
  let c0_i32_127 : BitVec 32 := 0#32
  let c1_i32_129 : BitVec 32 := 1#32
  let arg8 : BitVec 32 := Scf.iv c0_i32_127 c1_i32_129 k0_t7
  let v351 : Index := Scalar.indexCast arg8
  let c48_259 : Index := 48#32
  ![0, v351.toNat, 48]
def k0_off102 (k0_t7 : Fin k0_t7_loop.trips) : Fin 3 → Nat :=
  let c0_i32_260 : BitVec 32 := 0#32
  let v355 : Index := Scalar.indexCast c0_i32_260
  let c0_i32_127 : BitVec 32 := 0#32
  let c1_i32_129 : BitVec 32 := 1#32
  let arg8 : BitVec 32 := Scf.iv c0_i32_127 c1_i32_129 k0_t7
  let v356 : Index := Scalar.indexCast arg8
  let c64_261 : Index := 64#32
  ![0, v356.toNat, 64]
def k0_off103 (k0_t7 : Fin k0_t7_loop.trips) : Fin 3 → Nat :=
  let c0_i32_262 : BitVec 32 := 0#32
  let v360 : Index := Scalar.indexCast c0_i32_262
  let c0_i32_127 : BitVec 32 := 0#32
  let c1_i32_129 : BitVec 32 := 1#32
  let arg8 : BitVec 32 := Scf.iv c0_i32_127 c1_i32_129 k0_t7
  let v361 : Index := Scalar.indexCast arg8
  let c80_263 : Index := 80#32
  ![0, v361.toNat, 80]
def k0_off104 (k0_t7 : Fin k0_t7_loop.trips) : Fin 3 → Nat :=
  let c0_i32_264 : BitVec 32 := 0#32
  let v365 : Index := Scalar.indexCast c0_i32_264
  let c0_i32_127 : BitVec 32 := 0#32
  let c1_i32_129 : BitVec 32 := 1#32
  let arg8 : BitVec 32 := Scf.iv c0_i32_127 c1_i32_129 k0_t7
  let v366 : Index := Scalar.indexCast arg8
  let c96_265 : Index := 96#32
  ![0, v366.toNat, 96]
def k0_off105 (k0_t7 : Fin k0_t7_loop.trips) : Fin 3 → Nat :=
  let c0_i32_266 : BitVec 32 := 0#32
  let v370 : Index := Scalar.indexCast c0_i32_266
  let c0_i32_127 : BitVec 32 := 0#32
  let c1_i32_129 : BitVec 32 := 1#32
  let arg8 : BitVec 32 := Scf.iv c0_i32_127 c1_i32_129 k0_t7
  let v371 : Index := Scalar.indexCast arg8
  let c112_267 : Index := 112#32
  ![0, v371.toNat, 112]
def k0_off106 (k0_t7 : Fin k0_t7_loop.trips) : Fin 3 → Nat :=
  let c0_i32_268 : BitVec 32 := 0#32
  let v375 : Index := Scalar.indexCast c0_i32_268
  let c0_i32_127 : BitVec 32 := 0#32
  let c1_i32_129 : BitVec 32 := 1#32
  let arg8 : BitVec 32 := Scf.iv c0_i32_127 c1_i32_129 k0_t7
  let v376 : Index := Scalar.indexCast arg8
  let c128_269 : Index := 128#32
  ![0, v376.toNat, 128]
def k0_off107 (k0_t7 : Fin k0_t7_loop.trips) : Fin 3 → Nat :=
  let c0_i32_270 : BitVec 32 := 0#32
  let v380 : Index := Scalar.indexCast c0_i32_270
  let c0_i32_127 : BitVec 32 := 0#32
  let c1_i32_129 : BitVec 32 := 1#32
  let arg8 : BitVec 32 := Scf.iv c0_i32_127 c1_i32_129 k0_t7
  let v381 : Index := Scalar.indexCast arg8
  let c144_271 : Index := 144#32
  ![0, v381.toNat, 144]
def k0_off108 (k0_t7 : Fin k0_t7_loop.trips) : Fin 3 → Nat :=
  let c0_i32_272 : BitVec 32 := 0#32
  let v385 : Index := Scalar.indexCast c0_i32_272
  let c0_i32_127 : BitVec 32 := 0#32
  let c1_i32_129 : BitVec 32 := 1#32
  let arg8 : BitVec 32 := Scf.iv c0_i32_127 c1_i32_129 k0_t7
  let v386 : Index := Scalar.indexCast arg8
  let c160_273 : Index := 160#32
  ![0, v386.toNat, 160]
def k0_off109 (k0_t7 : Fin k0_t7_loop.trips) : Fin 3 → Nat :=
  let c0_i32_274 : BitVec 32 := 0#32
  let v390 : Index := Scalar.indexCast c0_i32_274
  let c0_i32_127 : BitVec 32 := 0#32
  let c1_i32_129 : BitVec 32 := 1#32
  let arg8 : BitVec 32 := Scf.iv c0_i32_127 c1_i32_129 k0_t7
  let v391 : Index := Scalar.indexCast arg8
  let c176_275 : Index := 176#32
  ![0, v391.toNat, 176]
def k0_off110 (k0_t7 : Fin k0_t7_loop.trips) : Fin 3 → Nat :=
  let c0_i32_276 : BitVec 32 := 0#32
  let v395 : Index := Scalar.indexCast c0_i32_276
  let c0_i32_127 : BitVec 32 := 0#32
  let c1_i32_129 : BitVec 32 := 1#32
  let arg8 : BitVec 32 := Scf.iv c0_i32_127 c1_i32_129 k0_t7
  let v396 : Index := Scalar.indexCast arg8
  let c192_277 : Index := 192#32
  ![0, v396.toNat, 192]
def k0_off111 (k0_t7 : Fin k0_t7_loop.trips) : Fin 3 → Nat :=
  let c0_i32_278 : BitVec 32 := 0#32
  let v400 : Index := Scalar.indexCast c0_i32_278
  let c0_i32_127 : BitVec 32 := 0#32
  let c1_i32_129 : BitVec 32 := 1#32
  let arg8 : BitVec 32 := Scf.iv c0_i32_127 c1_i32_129 k0_t7
  let v401 : Index := Scalar.indexCast arg8
  let c208_279 : Index := 208#32
  ![0, v401.toNat, 208]
def k0_off112 (k0_t7 : Fin k0_t7_loop.trips) : Fin 3 → Nat :=
  let c0_i32_280 : BitVec 32 := 0#32
  let v405 : Index := Scalar.indexCast c0_i32_280
  let c0_i32_127 : BitVec 32 := 0#32
  let c1_i32_129 : BitVec 32 := 1#32
  let arg8 : BitVec 32 := Scf.iv c0_i32_127 c1_i32_129 k0_t7
  let v406 : Index := Scalar.indexCast arg8
  let c224_281 : Index := 224#32
  ![0, v406.toNat, 224]
def k0_off113 (k0_t7 : Fin k0_t7_loop.trips) : Fin 3 → Nat :=
  let c0_i32_282 : BitVec 32 := 0#32
  let v410 : Index := Scalar.indexCast c0_i32_282
  let c0_i32_127 : BitVec 32 := 0#32
  let c1_i32_129 : BitVec 32 := 1#32
  let arg8 : BitVec 32 := Scf.iv c0_i32_127 c1_i32_129 k0_t7
  let v411 : Index := Scalar.indexCast arg8
  let c240_283 : Index := 240#32
  ![0, v411.toNat, 240]
@[reducible] def k0_t8_loop : Scf.Loop 32 :=
  let c0_i32_141 : BitVec 32 := 0#32
  let c128_i32_142 : BitVec 32 := 128#32
  let v172 : BitVec 32 := Scalar.addi c0_i32_141 c128_i32_142
  let c1_i32_143 : BitVec 32 := 1#32
  ⟨c0_i32_141, v172, c1_i32_143⟩
def k0_off114 (k0_t8 : Fin k0_t8_loop.trips) : Fin 3 → Nat :=
  let c1_i32_252 : BitVec 32 := 1#32
  let v335 : Index := Scalar.indexCast c1_i32_252
  let c0_i32_141 : BitVec 32 := 0#32
  let c1_i32_143 : BitVec 32 := 1#32
  let arg8 : BitVec 32 := Scf.iv c0_i32_141 c1_i32_143 k0_t8
  let v336 : Index := Scalar.indexCast arg8
  let c0_253 : Index := 0#32
  ![1, v336.toNat, 0]
def k0_off115 (k0_t8 : Fin k0_t8_loop.trips) : Fin 3 → Nat :=
  let c1_i32_254 : BitVec 32 := 1#32
  let v340 : Index := Scalar.indexCast c1_i32_254
  let c0_i32_141 : BitVec 32 := 0#32
  let c1_i32_143 : BitVec 32 := 1#32
  let arg8 : BitVec 32 := Scf.iv c0_i32_141 c1_i32_143 k0_t8
  let v341 : Index := Scalar.indexCast arg8
  let c16_255 : Index := 16#32
  ![1, v341.toNat, 16]
def k0_off116 (k0_t8 : Fin k0_t8_loop.trips) : Fin 3 → Nat :=
  let c1_i32_256 : BitVec 32 := 1#32
  let v345 : Index := Scalar.indexCast c1_i32_256
  let c0_i32_141 : BitVec 32 := 0#32
  let c1_i32_143 : BitVec 32 := 1#32
  let arg8 : BitVec 32 := Scf.iv c0_i32_141 c1_i32_143 k0_t8
  let v346 : Index := Scalar.indexCast arg8
  let c32_257 : Index := 32#32
  ![1, v346.toNat, 32]
def k0_off117 (k0_t8 : Fin k0_t8_loop.trips) : Fin 3 → Nat :=
  let c1_i32_258 : BitVec 32 := 1#32
  let v350 : Index := Scalar.indexCast c1_i32_258
  let c0_i32_141 : BitVec 32 := 0#32
  let c1_i32_143 : BitVec 32 := 1#32
  let arg8 : BitVec 32 := Scf.iv c0_i32_141 c1_i32_143 k0_t8
  let v351 : Index := Scalar.indexCast arg8
  let c48_259 : Index := 48#32
  ![1, v351.toNat, 48]
def k0_off118 (k0_t8 : Fin k0_t8_loop.trips) : Fin 3 → Nat :=
  let c1_i32_260 : BitVec 32 := 1#32
  let v355 : Index := Scalar.indexCast c1_i32_260
  let c0_i32_141 : BitVec 32 := 0#32
  let c1_i32_143 : BitVec 32 := 1#32
  let arg8 : BitVec 32 := Scf.iv c0_i32_141 c1_i32_143 k0_t8
  let v356 : Index := Scalar.indexCast arg8
  let c64_261 : Index := 64#32
  ![1, v356.toNat, 64]
def k0_off119 (k0_t8 : Fin k0_t8_loop.trips) : Fin 3 → Nat :=
  let c1_i32_262 : BitVec 32 := 1#32
  let v360 : Index := Scalar.indexCast c1_i32_262
  let c0_i32_141 : BitVec 32 := 0#32
  let c1_i32_143 : BitVec 32 := 1#32
  let arg8 : BitVec 32 := Scf.iv c0_i32_141 c1_i32_143 k0_t8
  let v361 : Index := Scalar.indexCast arg8
  let c80_263 : Index := 80#32
  ![1, v361.toNat, 80]
def k0_off120 (k0_t8 : Fin k0_t8_loop.trips) : Fin 3 → Nat :=
  let c1_i32_264 : BitVec 32 := 1#32
  let v365 : Index := Scalar.indexCast c1_i32_264
  let c0_i32_141 : BitVec 32 := 0#32
  let c1_i32_143 : BitVec 32 := 1#32
  let arg8 : BitVec 32 := Scf.iv c0_i32_141 c1_i32_143 k0_t8
  let v366 : Index := Scalar.indexCast arg8
  let c96_265 : Index := 96#32
  ![1, v366.toNat, 96]
def k0_off121 (k0_t8 : Fin k0_t8_loop.trips) : Fin 3 → Nat :=
  let c1_i32_266 : BitVec 32 := 1#32
  let v370 : Index := Scalar.indexCast c1_i32_266
  let c0_i32_141 : BitVec 32 := 0#32
  let c1_i32_143 : BitVec 32 := 1#32
  let arg8 : BitVec 32 := Scf.iv c0_i32_141 c1_i32_143 k0_t8
  let v371 : Index := Scalar.indexCast arg8
  let c112_267 : Index := 112#32
  ![1, v371.toNat, 112]
def k0_off122 (k0_t8 : Fin k0_t8_loop.trips) : Fin 3 → Nat :=
  let c1_i32_268 : BitVec 32 := 1#32
  let v375 : Index := Scalar.indexCast c1_i32_268
  let c0_i32_141 : BitVec 32 := 0#32
  let c1_i32_143 : BitVec 32 := 1#32
  let arg8 : BitVec 32 := Scf.iv c0_i32_141 c1_i32_143 k0_t8
  let v376 : Index := Scalar.indexCast arg8
  let c128_269 : Index := 128#32
  ![1, v376.toNat, 128]
def k0_off123 (k0_t8 : Fin k0_t8_loop.trips) : Fin 3 → Nat :=
  let c1_i32_270 : BitVec 32 := 1#32
  let v380 : Index := Scalar.indexCast c1_i32_270
  let c0_i32_141 : BitVec 32 := 0#32
  let c1_i32_143 : BitVec 32 := 1#32
  let arg8 : BitVec 32 := Scf.iv c0_i32_141 c1_i32_143 k0_t8
  let v381 : Index := Scalar.indexCast arg8
  let c144_271 : Index := 144#32
  ![1, v381.toNat, 144]
def k0_off124 (k0_t8 : Fin k0_t8_loop.trips) : Fin 3 → Nat :=
  let c1_i32_272 : BitVec 32 := 1#32
  let v385 : Index := Scalar.indexCast c1_i32_272
  let c0_i32_141 : BitVec 32 := 0#32
  let c1_i32_143 : BitVec 32 := 1#32
  let arg8 : BitVec 32 := Scf.iv c0_i32_141 c1_i32_143 k0_t8
  let v386 : Index := Scalar.indexCast arg8
  let c160_273 : Index := 160#32
  ![1, v386.toNat, 160]
def k0_off125 (k0_t8 : Fin k0_t8_loop.trips) : Fin 3 → Nat :=
  let c1_i32_274 : BitVec 32 := 1#32
  let v390 : Index := Scalar.indexCast c1_i32_274
  let c0_i32_141 : BitVec 32 := 0#32
  let c1_i32_143 : BitVec 32 := 1#32
  let arg8 : BitVec 32 := Scf.iv c0_i32_141 c1_i32_143 k0_t8
  let v391 : Index := Scalar.indexCast arg8
  let c176_275 : Index := 176#32
  ![1, v391.toNat, 176]
def k0_off126 (k0_t8 : Fin k0_t8_loop.trips) : Fin 3 → Nat :=
  let c1_i32_276 : BitVec 32 := 1#32
  let v395 : Index := Scalar.indexCast c1_i32_276
  let c0_i32_141 : BitVec 32 := 0#32
  let c1_i32_143 : BitVec 32 := 1#32
  let arg8 : BitVec 32 := Scf.iv c0_i32_141 c1_i32_143 k0_t8
  let v396 : Index := Scalar.indexCast arg8
  let c192_277 : Index := 192#32
  ![1, v396.toNat, 192]
def k0_off127 (k0_t8 : Fin k0_t8_loop.trips) : Fin 3 → Nat :=
  let c1_i32_278 : BitVec 32 := 1#32
  let v400 : Index := Scalar.indexCast c1_i32_278
  let c0_i32_141 : BitVec 32 := 0#32
  let c1_i32_143 : BitVec 32 := 1#32
  let arg8 : BitVec 32 := Scf.iv c0_i32_141 c1_i32_143 k0_t8
  let v401 : Index := Scalar.indexCast arg8
  let c208_279 : Index := 208#32
  ![1, v401.toNat, 208]
def k0_off128 (k0_t8 : Fin k0_t8_loop.trips) : Fin 3 → Nat :=
  let c1_i32_280 : BitVec 32 := 1#32
  let v405 : Index := Scalar.indexCast c1_i32_280
  let c0_i32_141 : BitVec 32 := 0#32
  let c1_i32_143 : BitVec 32 := 1#32
  let arg8 : BitVec 32 := Scf.iv c0_i32_141 c1_i32_143 k0_t8
  let v406 : Index := Scalar.indexCast arg8
  let c224_281 : Index := 224#32
  ![1, v406.toNat, 224]
def k0_off129 (k0_t8 : Fin k0_t8_loop.trips) : Fin 3 → Nat :=
  let c1_i32_282 : BitVec 32 := 1#32
  let v410 : Index := Scalar.indexCast c1_i32_282
  let c0_i32_141 : BitVec 32 := 0#32
  let c1_i32_143 : BitVec 32 := 1#32
  let arg8 : BitVec 32 := Scf.iv c0_i32_141 c1_i32_143 k0_t8
  let v411 : Index := Scalar.indexCast arg8
  let c240_283 : Index := 240#32
  ![1, v411.toNat, 240]
@[reducible] def k0_t9_loop : Scf.Loop 32 :=
  let c0_i32_155 : BitVec 32 := 0#32
  let c128_i32_156 : BitVec 32 := 128#32
  let v187 : BitVec 32 := Scalar.addi c0_i32_155 c128_i32_156
  let c1_i32_157 : BitVec 32 := 1#32
  ⟨c0_i32_155, v187, c1_i32_157⟩
def k0_off130 (k0_t9 : Fin k0_t9_loop.trips) : Fin 3 → Nat :=
  let c0_i32_252 : BitVec 32 := 0#32
  let v335 : Index := Scalar.indexCast c0_i32_252
  let c0_i32_155 : BitVec 32 := 0#32
  let c1_i32_157 : BitVec 32 := 1#32
  let arg8 : BitVec 32 := Scf.iv c0_i32_155 c1_i32_157 k0_t9
  let v336 : Index := Scalar.indexCast arg8
  let c0_253 : Index := 0#32
  ![0, v336.toNat, 0]
def k0_off131 (k0_t9 : Fin k0_t9_loop.trips) : Fin 3 → Nat :=
  let c0_i32_254 : BitVec 32 := 0#32
  let v340 : Index := Scalar.indexCast c0_i32_254
  let c0_i32_155 : BitVec 32 := 0#32
  let c1_i32_157 : BitVec 32 := 1#32
  let arg8 : BitVec 32 := Scf.iv c0_i32_155 c1_i32_157 k0_t9
  let v341 : Index := Scalar.indexCast arg8
  let c16_255 : Index := 16#32
  ![0, v341.toNat, 16]
def k0_off132 (k0_t9 : Fin k0_t9_loop.trips) : Fin 3 → Nat :=
  let c0_i32_256 : BitVec 32 := 0#32
  let v345 : Index := Scalar.indexCast c0_i32_256
  let c0_i32_155 : BitVec 32 := 0#32
  let c1_i32_157 : BitVec 32 := 1#32
  let arg8 : BitVec 32 := Scf.iv c0_i32_155 c1_i32_157 k0_t9
  let v346 : Index := Scalar.indexCast arg8
  let c32_257 : Index := 32#32
  ![0, v346.toNat, 32]
def k0_off133 (k0_t9 : Fin k0_t9_loop.trips) : Fin 3 → Nat :=
  let c0_i32_258 : BitVec 32 := 0#32
  let v350 : Index := Scalar.indexCast c0_i32_258
  let c0_i32_155 : BitVec 32 := 0#32
  let c1_i32_157 : BitVec 32 := 1#32
  let arg8 : BitVec 32 := Scf.iv c0_i32_155 c1_i32_157 k0_t9
  let v351 : Index := Scalar.indexCast arg8
  let c48_259 : Index := 48#32
  ![0, v351.toNat, 48]
def k0_off134 (k0_t9 : Fin k0_t9_loop.trips) : Fin 3 → Nat :=
  let c0_i32_260 : BitVec 32 := 0#32
  let v355 : Index := Scalar.indexCast c0_i32_260
  let c0_i32_155 : BitVec 32 := 0#32
  let c1_i32_157 : BitVec 32 := 1#32
  let arg8 : BitVec 32 := Scf.iv c0_i32_155 c1_i32_157 k0_t9
  let v356 : Index := Scalar.indexCast arg8
  let c64_261 : Index := 64#32
  ![0, v356.toNat, 64]
def k0_off135 (k0_t9 : Fin k0_t9_loop.trips) : Fin 3 → Nat :=
  let c0_i32_262 : BitVec 32 := 0#32
  let v360 : Index := Scalar.indexCast c0_i32_262
  let c0_i32_155 : BitVec 32 := 0#32
  let c1_i32_157 : BitVec 32 := 1#32
  let arg8 : BitVec 32 := Scf.iv c0_i32_155 c1_i32_157 k0_t9
  let v361 : Index := Scalar.indexCast arg8
  let c80_263 : Index := 80#32
  ![0, v361.toNat, 80]
def k0_off136 (k0_t9 : Fin k0_t9_loop.trips) : Fin 3 → Nat :=
  let c0_i32_264 : BitVec 32 := 0#32
  let v365 : Index := Scalar.indexCast c0_i32_264
  let c0_i32_155 : BitVec 32 := 0#32
  let c1_i32_157 : BitVec 32 := 1#32
  let arg8 : BitVec 32 := Scf.iv c0_i32_155 c1_i32_157 k0_t9
  let v366 : Index := Scalar.indexCast arg8
  let c96_265 : Index := 96#32
  ![0, v366.toNat, 96]
def k0_off137 (k0_t9 : Fin k0_t9_loop.trips) : Fin 3 → Nat :=
  let c0_i32_266 : BitVec 32 := 0#32
  let v370 : Index := Scalar.indexCast c0_i32_266
  let c0_i32_155 : BitVec 32 := 0#32
  let c1_i32_157 : BitVec 32 := 1#32
  let arg8 : BitVec 32 := Scf.iv c0_i32_155 c1_i32_157 k0_t9
  let v371 : Index := Scalar.indexCast arg8
  let c112_267 : Index := 112#32
  ![0, v371.toNat, 112]
def k0_off138 (k0_t9 : Fin k0_t9_loop.trips) : Fin 3 → Nat :=
  let c0_i32_268 : BitVec 32 := 0#32
  let v375 : Index := Scalar.indexCast c0_i32_268
  let c0_i32_155 : BitVec 32 := 0#32
  let c1_i32_157 : BitVec 32 := 1#32
  let arg8 : BitVec 32 := Scf.iv c0_i32_155 c1_i32_157 k0_t9
  let v376 : Index := Scalar.indexCast arg8
  let c128_269 : Index := 128#32
  ![0, v376.toNat, 128]
def k0_off139 (k0_t9 : Fin k0_t9_loop.trips) : Fin 3 → Nat :=
  let c0_i32_270 : BitVec 32 := 0#32
  let v380 : Index := Scalar.indexCast c0_i32_270
  let c0_i32_155 : BitVec 32 := 0#32
  let c1_i32_157 : BitVec 32 := 1#32
  let arg8 : BitVec 32 := Scf.iv c0_i32_155 c1_i32_157 k0_t9
  let v381 : Index := Scalar.indexCast arg8
  let c144_271 : Index := 144#32
  ![0, v381.toNat, 144]
def k0_off140 (k0_t9 : Fin k0_t9_loop.trips) : Fin 3 → Nat :=
  let c0_i32_272 : BitVec 32 := 0#32
  let v385 : Index := Scalar.indexCast c0_i32_272
  let c0_i32_155 : BitVec 32 := 0#32
  let c1_i32_157 : BitVec 32 := 1#32
  let arg8 : BitVec 32 := Scf.iv c0_i32_155 c1_i32_157 k0_t9
  let v386 : Index := Scalar.indexCast arg8
  let c160_273 : Index := 160#32
  ![0, v386.toNat, 160]
def k0_off141 (k0_t9 : Fin k0_t9_loop.trips) : Fin 3 → Nat :=
  let c0_i32_274 : BitVec 32 := 0#32
  let v390 : Index := Scalar.indexCast c0_i32_274
  let c0_i32_155 : BitVec 32 := 0#32
  let c1_i32_157 : BitVec 32 := 1#32
  let arg8 : BitVec 32 := Scf.iv c0_i32_155 c1_i32_157 k0_t9
  let v391 : Index := Scalar.indexCast arg8
  let c176_275 : Index := 176#32
  ![0, v391.toNat, 176]
def k0_off142 (k0_t9 : Fin k0_t9_loop.trips) : Fin 3 → Nat :=
  let c0_i32_276 : BitVec 32 := 0#32
  let v395 : Index := Scalar.indexCast c0_i32_276
  let c0_i32_155 : BitVec 32 := 0#32
  let c1_i32_157 : BitVec 32 := 1#32
  let arg8 : BitVec 32 := Scf.iv c0_i32_155 c1_i32_157 k0_t9
  let v396 : Index := Scalar.indexCast arg8
  let c192_277 : Index := 192#32
  ![0, v396.toNat, 192]
def k0_off143 (k0_t9 : Fin k0_t9_loop.trips) : Fin 3 → Nat :=
  let c0_i32_278 : BitVec 32 := 0#32
  let v400 : Index := Scalar.indexCast c0_i32_278
  let c0_i32_155 : BitVec 32 := 0#32
  let c1_i32_157 : BitVec 32 := 1#32
  let arg8 : BitVec 32 := Scf.iv c0_i32_155 c1_i32_157 k0_t9
  let v401 : Index := Scalar.indexCast arg8
  let c208_279 : Index := 208#32
  ![0, v401.toNat, 208]
def k0_off144 (k0_t9 : Fin k0_t9_loop.trips) : Fin 3 → Nat :=
  let c0_i32_280 : BitVec 32 := 0#32
  let v405 : Index := Scalar.indexCast c0_i32_280
  let c0_i32_155 : BitVec 32 := 0#32
  let c1_i32_157 : BitVec 32 := 1#32
  let arg8 : BitVec 32 := Scf.iv c0_i32_155 c1_i32_157 k0_t9
  let v406 : Index := Scalar.indexCast arg8
  let c224_281 : Index := 224#32
  ![0, v406.toNat, 224]
def k0_off145 (k0_t9 : Fin k0_t9_loop.trips) : Fin 3 → Nat :=
  let c0_i32_282 : BitVec 32 := 0#32
  let v410 : Index := Scalar.indexCast c0_i32_282
  let c0_i32_155 : BitVec 32 := 0#32
  let c1_i32_157 : BitVec 32 := 1#32
  let arg8 : BitVec 32 := Scf.iv c0_i32_155 c1_i32_157 k0_t9
  let v411 : Index := Scalar.indexCast arg8
  let c240_283 : Index := 240#32
  ![0, v411.toNat, 240]
@[reducible] def k0_t10_loop : Scf.Loop 32 :=
  let c0_i32_169 : BitVec 32 := 0#32
  let c128_i32_170 : BitVec 32 := 128#32
  let v202 : BitVec 32 := Scalar.addi c0_i32_169 c128_i32_170
  let c1_i32_171 : BitVec 32 := 1#32
  ⟨c0_i32_169, v202, c1_i32_171⟩
def k0_off146 (k0_t10 : Fin k0_t10_loop.trips) : Fin 3 → Nat :=
  let c1_i32_252 : BitVec 32 := 1#32
  let v335 : Index := Scalar.indexCast c1_i32_252
  let c0_i32_169 : BitVec 32 := 0#32
  let c1_i32_171 : BitVec 32 := 1#32
  let arg8 : BitVec 32 := Scf.iv c0_i32_169 c1_i32_171 k0_t10
  let v336 : Index := Scalar.indexCast arg8
  let c0_253 : Index := 0#32
  ![1, v336.toNat, 0]
def k0_off147 (k0_t10 : Fin k0_t10_loop.trips) : Fin 3 → Nat :=
  let c1_i32_254 : BitVec 32 := 1#32
  let v340 : Index := Scalar.indexCast c1_i32_254
  let c0_i32_169 : BitVec 32 := 0#32
  let c1_i32_171 : BitVec 32 := 1#32
  let arg8 : BitVec 32 := Scf.iv c0_i32_169 c1_i32_171 k0_t10
  let v341 : Index := Scalar.indexCast arg8
  let c16_255 : Index := 16#32
  ![1, v341.toNat, 16]
def k0_off148 (k0_t10 : Fin k0_t10_loop.trips) : Fin 3 → Nat :=
  let c1_i32_256 : BitVec 32 := 1#32
  let v345 : Index := Scalar.indexCast c1_i32_256
  let c0_i32_169 : BitVec 32 := 0#32
  let c1_i32_171 : BitVec 32 := 1#32
  let arg8 : BitVec 32 := Scf.iv c0_i32_169 c1_i32_171 k0_t10
  let v346 : Index := Scalar.indexCast arg8
  let c32_257 : Index := 32#32
  ![1, v346.toNat, 32]
def k0_off149 (k0_t10 : Fin k0_t10_loop.trips) : Fin 3 → Nat :=
  let c1_i32_258 : BitVec 32 := 1#32
  let v350 : Index := Scalar.indexCast c1_i32_258
  let c0_i32_169 : BitVec 32 := 0#32
  let c1_i32_171 : BitVec 32 := 1#32
  let arg8 : BitVec 32 := Scf.iv c0_i32_169 c1_i32_171 k0_t10
  let v351 : Index := Scalar.indexCast arg8
  let c48_259 : Index := 48#32
  ![1, v351.toNat, 48]
def k0_off150 (k0_t10 : Fin k0_t10_loop.trips) : Fin 3 → Nat :=
  let c1_i32_260 : BitVec 32 := 1#32
  let v355 : Index := Scalar.indexCast c1_i32_260
  let c0_i32_169 : BitVec 32 := 0#32
  let c1_i32_171 : BitVec 32 := 1#32
  let arg8 : BitVec 32 := Scf.iv c0_i32_169 c1_i32_171 k0_t10
  let v356 : Index := Scalar.indexCast arg8
  let c64_261 : Index := 64#32
  ![1, v356.toNat, 64]
def k0_off151 (k0_t10 : Fin k0_t10_loop.trips) : Fin 3 → Nat :=
  let c1_i32_262 : BitVec 32 := 1#32
  let v360 : Index := Scalar.indexCast c1_i32_262
  let c0_i32_169 : BitVec 32 := 0#32
  let c1_i32_171 : BitVec 32 := 1#32
  let arg8 : BitVec 32 := Scf.iv c0_i32_169 c1_i32_171 k0_t10
  let v361 : Index := Scalar.indexCast arg8
  let c80_263 : Index := 80#32
  ![1, v361.toNat, 80]
def k0_off152 (k0_t10 : Fin k0_t10_loop.trips) : Fin 3 → Nat :=
  let c1_i32_264 : BitVec 32 := 1#32
  let v365 : Index := Scalar.indexCast c1_i32_264
  let c0_i32_169 : BitVec 32 := 0#32
  let c1_i32_171 : BitVec 32 := 1#32
  let arg8 : BitVec 32 := Scf.iv c0_i32_169 c1_i32_171 k0_t10
  let v366 : Index := Scalar.indexCast arg8
  let c96_265 : Index := 96#32
  ![1, v366.toNat, 96]
def k0_off153 (k0_t10 : Fin k0_t10_loop.trips) : Fin 3 → Nat :=
  let c1_i32_266 : BitVec 32 := 1#32
  let v370 : Index := Scalar.indexCast c1_i32_266
  let c0_i32_169 : BitVec 32 := 0#32
  let c1_i32_171 : BitVec 32 := 1#32
  let arg8 : BitVec 32 := Scf.iv c0_i32_169 c1_i32_171 k0_t10
  let v371 : Index := Scalar.indexCast arg8
  let c112_267 : Index := 112#32
  ![1, v371.toNat, 112]
def k0_off154 (k0_t10 : Fin k0_t10_loop.trips) : Fin 3 → Nat :=
  let c1_i32_268 : BitVec 32 := 1#32
  let v375 : Index := Scalar.indexCast c1_i32_268
  let c0_i32_169 : BitVec 32 := 0#32
  let c1_i32_171 : BitVec 32 := 1#32
  let arg8 : BitVec 32 := Scf.iv c0_i32_169 c1_i32_171 k0_t10
  let v376 : Index := Scalar.indexCast arg8
  let c128_269 : Index := 128#32
  ![1, v376.toNat, 128]
def k0_off155 (k0_t10 : Fin k0_t10_loop.trips) : Fin 3 → Nat :=
  let c1_i32_270 : BitVec 32 := 1#32
  let v380 : Index := Scalar.indexCast c1_i32_270
  let c0_i32_169 : BitVec 32 := 0#32
  let c1_i32_171 : BitVec 32 := 1#32
  let arg8 : BitVec 32 := Scf.iv c0_i32_169 c1_i32_171 k0_t10
  let v381 : Index := Scalar.indexCast arg8
  let c144_271 : Index := 144#32
  ![1, v381.toNat, 144]
def k0_off156 (k0_t10 : Fin k0_t10_loop.trips) : Fin 3 → Nat :=
  let c1_i32_272 : BitVec 32 := 1#32
  let v385 : Index := Scalar.indexCast c1_i32_272
  let c0_i32_169 : BitVec 32 := 0#32
  let c1_i32_171 : BitVec 32 := 1#32
  let arg8 : BitVec 32 := Scf.iv c0_i32_169 c1_i32_171 k0_t10
  let v386 : Index := Scalar.indexCast arg8
  let c160_273 : Index := 160#32
  ![1, v386.toNat, 160]
def k0_off157 (k0_t10 : Fin k0_t10_loop.trips) : Fin 3 → Nat :=
  let c1_i32_274 : BitVec 32 := 1#32
  let v390 : Index := Scalar.indexCast c1_i32_274
  let c0_i32_169 : BitVec 32 := 0#32
  let c1_i32_171 : BitVec 32 := 1#32
  let arg8 : BitVec 32 := Scf.iv c0_i32_169 c1_i32_171 k0_t10
  let v391 : Index := Scalar.indexCast arg8
  let c176_275 : Index := 176#32
  ![1, v391.toNat, 176]
def k0_off158 (k0_t10 : Fin k0_t10_loop.trips) : Fin 3 → Nat :=
  let c1_i32_276 : BitVec 32 := 1#32
  let v395 : Index := Scalar.indexCast c1_i32_276
  let c0_i32_169 : BitVec 32 := 0#32
  let c1_i32_171 : BitVec 32 := 1#32
  let arg8 : BitVec 32 := Scf.iv c0_i32_169 c1_i32_171 k0_t10
  let v396 : Index := Scalar.indexCast arg8
  let c192_277 : Index := 192#32
  ![1, v396.toNat, 192]
def k0_off159 (k0_t10 : Fin k0_t10_loop.trips) : Fin 3 → Nat :=
  let c1_i32_278 : BitVec 32 := 1#32
  let v400 : Index := Scalar.indexCast c1_i32_278
  let c0_i32_169 : BitVec 32 := 0#32
  let c1_i32_171 : BitVec 32 := 1#32
  let arg8 : BitVec 32 := Scf.iv c0_i32_169 c1_i32_171 k0_t10
  let v401 : Index := Scalar.indexCast arg8
  let c208_279 : Index := 208#32
  ![1, v401.toNat, 208]
def k0_off160 (k0_t10 : Fin k0_t10_loop.trips) : Fin 3 → Nat :=
  let c1_i32_280 : BitVec 32 := 1#32
  let v405 : Index := Scalar.indexCast c1_i32_280
  let c0_i32_169 : BitVec 32 := 0#32
  let c1_i32_171 : BitVec 32 := 1#32
  let arg8 : BitVec 32 := Scf.iv c0_i32_169 c1_i32_171 k0_t10
  let v406 : Index := Scalar.indexCast arg8
  let c224_281 : Index := 224#32
  ![1, v406.toNat, 224]
def k0_off161 (k0_t10 : Fin k0_t10_loop.trips) : Fin 3 → Nat :=
  let c1_i32_282 : BitVec 32 := 1#32
  let v410 : Index := Scalar.indexCast c1_i32_282
  let c0_i32_169 : BitVec 32 := 0#32
  let c1_i32_171 : BitVec 32 := 1#32
  let arg8 : BitVec 32 := Scf.iv c0_i32_169 c1_i32_171 k0_t10
  let v411 : Index := Scalar.indexCast arg8
  let c240_283 : Index := 240#32
  ![1, v411.toNat, 240]
@[reducible] def k0_t11_loop : Scf.Loop 32 :=
  let c0_i32_183 : BitVec 32 := 0#32
  let c128_i32_184 : BitVec 32 := 128#32
  let v217 : BitVec 32 := Scalar.addi c0_i32_183 c128_i32_184
  let c1_i32_185 : BitVec 32 := 1#32
  ⟨c0_i32_183, v217, c1_i32_185⟩
def k0_off162 (k0_t11 : Fin k0_t11_loop.trips) : Fin 3 → Nat :=
  let c0_i32_252 : BitVec 32 := 0#32
  let v335 : Index := Scalar.indexCast c0_i32_252
  let c0_i32_183 : BitVec 32 := 0#32
  let c1_i32_185 : BitVec 32 := 1#32
  let arg8 : BitVec 32 := Scf.iv c0_i32_183 c1_i32_185 k0_t11
  let v336 : Index := Scalar.indexCast arg8
  let c0_253 : Index := 0#32
  ![0, v336.toNat, 0]
def k0_off163 (k0_t11 : Fin k0_t11_loop.trips) : Fin 3 → Nat :=
  let c0_i32_254 : BitVec 32 := 0#32
  let v340 : Index := Scalar.indexCast c0_i32_254
  let c0_i32_183 : BitVec 32 := 0#32
  let c1_i32_185 : BitVec 32 := 1#32
  let arg8 : BitVec 32 := Scf.iv c0_i32_183 c1_i32_185 k0_t11
  let v341 : Index := Scalar.indexCast arg8
  let c16_255 : Index := 16#32
  ![0, v341.toNat, 16]
def k0_off164 (k0_t11 : Fin k0_t11_loop.trips) : Fin 3 → Nat :=
  let c0_i32_256 : BitVec 32 := 0#32
  let v345 : Index := Scalar.indexCast c0_i32_256
  let c0_i32_183 : BitVec 32 := 0#32
  let c1_i32_185 : BitVec 32 := 1#32
  let arg8 : BitVec 32 := Scf.iv c0_i32_183 c1_i32_185 k0_t11
  let v346 : Index := Scalar.indexCast arg8
  let c32_257 : Index := 32#32
  ![0, v346.toNat, 32]
def k0_off165 (k0_t11 : Fin k0_t11_loop.trips) : Fin 3 → Nat :=
  let c0_i32_258 : BitVec 32 := 0#32
  let v350 : Index := Scalar.indexCast c0_i32_258
  let c0_i32_183 : BitVec 32 := 0#32
  let c1_i32_185 : BitVec 32 := 1#32
  let arg8 : BitVec 32 := Scf.iv c0_i32_183 c1_i32_185 k0_t11
  let v351 : Index := Scalar.indexCast arg8
  let c48_259 : Index := 48#32
  ![0, v351.toNat, 48]
def k0_off166 (k0_t11 : Fin k0_t11_loop.trips) : Fin 3 → Nat :=
  let c0_i32_260 : BitVec 32 := 0#32
  let v355 : Index := Scalar.indexCast c0_i32_260
  let c0_i32_183 : BitVec 32 := 0#32
  let c1_i32_185 : BitVec 32 := 1#32
  let arg8 : BitVec 32 := Scf.iv c0_i32_183 c1_i32_185 k0_t11
  let v356 : Index := Scalar.indexCast arg8
  let c64_261 : Index := 64#32
  ![0, v356.toNat, 64]
def k0_off167 (k0_t11 : Fin k0_t11_loop.trips) : Fin 3 → Nat :=
  let c0_i32_262 : BitVec 32 := 0#32
  let v360 : Index := Scalar.indexCast c0_i32_262
  let c0_i32_183 : BitVec 32 := 0#32
  let c1_i32_185 : BitVec 32 := 1#32
  let arg8 : BitVec 32 := Scf.iv c0_i32_183 c1_i32_185 k0_t11
  let v361 : Index := Scalar.indexCast arg8
  let c80_263 : Index := 80#32
  ![0, v361.toNat, 80]
def k0_off168 (k0_t11 : Fin k0_t11_loop.trips) : Fin 3 → Nat :=
  let c0_i32_264 : BitVec 32 := 0#32
  let v365 : Index := Scalar.indexCast c0_i32_264
  let c0_i32_183 : BitVec 32 := 0#32
  let c1_i32_185 : BitVec 32 := 1#32
  let arg8 : BitVec 32 := Scf.iv c0_i32_183 c1_i32_185 k0_t11
  let v366 : Index := Scalar.indexCast arg8
  let c96_265 : Index := 96#32
  ![0, v366.toNat, 96]
def k0_off169 (k0_t11 : Fin k0_t11_loop.trips) : Fin 3 → Nat :=
  let c0_i32_266 : BitVec 32 := 0#32
  let v370 : Index := Scalar.indexCast c0_i32_266
  let c0_i32_183 : BitVec 32 := 0#32
  let c1_i32_185 : BitVec 32 := 1#32
  let arg8 : BitVec 32 := Scf.iv c0_i32_183 c1_i32_185 k0_t11
  let v371 : Index := Scalar.indexCast arg8
  let c112_267 : Index := 112#32
  ![0, v371.toNat, 112]
def k0_off170 (k0_t11 : Fin k0_t11_loop.trips) : Fin 3 → Nat :=
  let c0_i32_268 : BitVec 32 := 0#32
  let v375 : Index := Scalar.indexCast c0_i32_268
  let c0_i32_183 : BitVec 32 := 0#32
  let c1_i32_185 : BitVec 32 := 1#32
  let arg8 : BitVec 32 := Scf.iv c0_i32_183 c1_i32_185 k0_t11
  let v376 : Index := Scalar.indexCast arg8
  let c128_269 : Index := 128#32
  ![0, v376.toNat, 128]
def k0_off171 (k0_t11 : Fin k0_t11_loop.trips) : Fin 3 → Nat :=
  let c0_i32_270 : BitVec 32 := 0#32
  let v380 : Index := Scalar.indexCast c0_i32_270
  let c0_i32_183 : BitVec 32 := 0#32
  let c1_i32_185 : BitVec 32 := 1#32
  let arg8 : BitVec 32 := Scf.iv c0_i32_183 c1_i32_185 k0_t11
  let v381 : Index := Scalar.indexCast arg8
  let c144_271 : Index := 144#32
  ![0, v381.toNat, 144]
def k0_off172 (k0_t11 : Fin k0_t11_loop.trips) : Fin 3 → Nat :=
  let c0_i32_272 : BitVec 32 := 0#32
  let v385 : Index := Scalar.indexCast c0_i32_272
  let c0_i32_183 : BitVec 32 := 0#32
  let c1_i32_185 : BitVec 32 := 1#32
  let arg8 : BitVec 32 := Scf.iv c0_i32_183 c1_i32_185 k0_t11
  let v386 : Index := Scalar.indexCast arg8
  let c160_273 : Index := 160#32
  ![0, v386.toNat, 160]
def k0_off173 (k0_t11 : Fin k0_t11_loop.trips) : Fin 3 → Nat :=
  let c0_i32_274 : BitVec 32 := 0#32
  let v390 : Index := Scalar.indexCast c0_i32_274
  let c0_i32_183 : BitVec 32 := 0#32
  let c1_i32_185 : BitVec 32 := 1#32
  let arg8 : BitVec 32 := Scf.iv c0_i32_183 c1_i32_185 k0_t11
  let v391 : Index := Scalar.indexCast arg8
  let c176_275 : Index := 176#32
  ![0, v391.toNat, 176]
def k0_off174 (k0_t11 : Fin k0_t11_loop.trips) : Fin 3 → Nat :=
  let c0_i32_276 : BitVec 32 := 0#32
  let v395 : Index := Scalar.indexCast c0_i32_276
  let c0_i32_183 : BitVec 32 := 0#32
  let c1_i32_185 : BitVec 32 := 1#32
  let arg8 : BitVec 32 := Scf.iv c0_i32_183 c1_i32_185 k0_t11
  let v396 : Index := Scalar.indexCast arg8
  let c192_277 : Index := 192#32
  ![0, v396.toNat, 192]
def k0_off175 (k0_t11 : Fin k0_t11_loop.trips) : Fin 3 → Nat :=
  let c0_i32_278 : BitVec 32 := 0#32
  let v400 : Index := Scalar.indexCast c0_i32_278
  let c0_i32_183 : BitVec 32 := 0#32
  let c1_i32_185 : BitVec 32 := 1#32
  let arg8 : BitVec 32 := Scf.iv c0_i32_183 c1_i32_185 k0_t11
  let v401 : Index := Scalar.indexCast arg8
  let c208_279 : Index := 208#32
  ![0, v401.toNat, 208]
def k0_off176 (k0_t11 : Fin k0_t11_loop.trips) : Fin 3 → Nat :=
  let c0_i32_280 : BitVec 32 := 0#32
  let v405 : Index := Scalar.indexCast c0_i32_280
  let c0_i32_183 : BitVec 32 := 0#32
  let c1_i32_185 : BitVec 32 := 1#32
  let arg8 : BitVec 32 := Scf.iv c0_i32_183 c1_i32_185 k0_t11
  let v406 : Index := Scalar.indexCast arg8
  let c224_281 : Index := 224#32
  ![0, v406.toNat, 224]
def k0_off177 (k0_t11 : Fin k0_t11_loop.trips) : Fin 3 → Nat :=
  let c0_i32_282 : BitVec 32 := 0#32
  let v410 : Index := Scalar.indexCast c0_i32_282
  let c0_i32_183 : BitVec 32 := 0#32
  let c1_i32_185 : BitVec 32 := 1#32
  let arg8 : BitVec 32 := Scf.iv c0_i32_183 c1_i32_185 k0_t11
  let v411 : Index := Scalar.indexCast arg8
  let c240_283 : Index := 240#32
  ![0, v411.toNat, 240]
@[reducible] def k0_t12_loop : Scf.Loop 32 :=
  let c0_i32_197 : BitVec 32 := 0#32
  let c128_i32_198 : BitVec 32 := 128#32
  let v232 : BitVec 32 := Scalar.addi c0_i32_197 c128_i32_198
  let c1_i32_199 : BitVec 32 := 1#32
  ⟨c0_i32_197, v232, c1_i32_199⟩
def k0_off178 (k0_t12 : Fin k0_t12_loop.trips) : Fin 3 → Nat :=
  let c1_i32_252 : BitVec 32 := 1#32
  let v335 : Index := Scalar.indexCast c1_i32_252
  let c0_i32_197 : BitVec 32 := 0#32
  let c1_i32_199 : BitVec 32 := 1#32
  let arg8 : BitVec 32 := Scf.iv c0_i32_197 c1_i32_199 k0_t12
  let v336 : Index := Scalar.indexCast arg8
  let c0_253 : Index := 0#32
  ![1, v336.toNat, 0]
def k0_off179 (k0_t12 : Fin k0_t12_loop.trips) : Fin 3 → Nat :=
  let c1_i32_254 : BitVec 32 := 1#32
  let v340 : Index := Scalar.indexCast c1_i32_254
  let c0_i32_197 : BitVec 32 := 0#32
  let c1_i32_199 : BitVec 32 := 1#32
  let arg8 : BitVec 32 := Scf.iv c0_i32_197 c1_i32_199 k0_t12
  let v341 : Index := Scalar.indexCast arg8
  let c16_255 : Index := 16#32
  ![1, v341.toNat, 16]
def k0_off180 (k0_t12 : Fin k0_t12_loop.trips) : Fin 3 → Nat :=
  let c1_i32_256 : BitVec 32 := 1#32
  let v345 : Index := Scalar.indexCast c1_i32_256
  let c0_i32_197 : BitVec 32 := 0#32
  let c1_i32_199 : BitVec 32 := 1#32
  let arg8 : BitVec 32 := Scf.iv c0_i32_197 c1_i32_199 k0_t12
  let v346 : Index := Scalar.indexCast arg8
  let c32_257 : Index := 32#32
  ![1, v346.toNat, 32]
def k0_off181 (k0_t12 : Fin k0_t12_loop.trips) : Fin 3 → Nat :=
  let c1_i32_258 : BitVec 32 := 1#32
  let v350 : Index := Scalar.indexCast c1_i32_258
  let c0_i32_197 : BitVec 32 := 0#32
  let c1_i32_199 : BitVec 32 := 1#32
  let arg8 : BitVec 32 := Scf.iv c0_i32_197 c1_i32_199 k0_t12
  let v351 : Index := Scalar.indexCast arg8
  let c48_259 : Index := 48#32
  ![1, v351.toNat, 48]
def k0_off182 (k0_t12 : Fin k0_t12_loop.trips) : Fin 3 → Nat :=
  let c1_i32_260 : BitVec 32 := 1#32
  let v355 : Index := Scalar.indexCast c1_i32_260
  let c0_i32_197 : BitVec 32 := 0#32
  let c1_i32_199 : BitVec 32 := 1#32
  let arg8 : BitVec 32 := Scf.iv c0_i32_197 c1_i32_199 k0_t12
  let v356 : Index := Scalar.indexCast arg8
  let c64_261 : Index := 64#32
  ![1, v356.toNat, 64]
def k0_off183 (k0_t12 : Fin k0_t12_loop.trips) : Fin 3 → Nat :=
  let c1_i32_262 : BitVec 32 := 1#32
  let v360 : Index := Scalar.indexCast c1_i32_262
  let c0_i32_197 : BitVec 32 := 0#32
  let c1_i32_199 : BitVec 32 := 1#32
  let arg8 : BitVec 32 := Scf.iv c0_i32_197 c1_i32_199 k0_t12
  let v361 : Index := Scalar.indexCast arg8
  let c80_263 : Index := 80#32
  ![1, v361.toNat, 80]
def k0_off184 (k0_t12 : Fin k0_t12_loop.trips) : Fin 3 → Nat :=
  let c1_i32_264 : BitVec 32 := 1#32
  let v365 : Index := Scalar.indexCast c1_i32_264
  let c0_i32_197 : BitVec 32 := 0#32
  let c1_i32_199 : BitVec 32 := 1#32
  let arg8 : BitVec 32 := Scf.iv c0_i32_197 c1_i32_199 k0_t12
  let v366 : Index := Scalar.indexCast arg8
  let c96_265 : Index := 96#32
  ![1, v366.toNat, 96]
def k0_off185 (k0_t12 : Fin k0_t12_loop.trips) : Fin 3 → Nat :=
  let c1_i32_266 : BitVec 32 := 1#32
  let v370 : Index := Scalar.indexCast c1_i32_266
  let c0_i32_197 : BitVec 32 := 0#32
  let c1_i32_199 : BitVec 32 := 1#32
  let arg8 : BitVec 32 := Scf.iv c0_i32_197 c1_i32_199 k0_t12
  let v371 : Index := Scalar.indexCast arg8
  let c112_267 : Index := 112#32
  ![1, v371.toNat, 112]
def k0_off186 (k0_t12 : Fin k0_t12_loop.trips) : Fin 3 → Nat :=
  let c1_i32_268 : BitVec 32 := 1#32
  let v375 : Index := Scalar.indexCast c1_i32_268
  let c0_i32_197 : BitVec 32 := 0#32
  let c1_i32_199 : BitVec 32 := 1#32
  let arg8 : BitVec 32 := Scf.iv c0_i32_197 c1_i32_199 k0_t12
  let v376 : Index := Scalar.indexCast arg8
  let c128_269 : Index := 128#32
  ![1, v376.toNat, 128]
def k0_off187 (k0_t12 : Fin k0_t12_loop.trips) : Fin 3 → Nat :=
  let c1_i32_270 : BitVec 32 := 1#32
  let v380 : Index := Scalar.indexCast c1_i32_270
  let c0_i32_197 : BitVec 32 := 0#32
  let c1_i32_199 : BitVec 32 := 1#32
  let arg8 : BitVec 32 := Scf.iv c0_i32_197 c1_i32_199 k0_t12
  let v381 : Index := Scalar.indexCast arg8
  let c144_271 : Index := 144#32
  ![1, v381.toNat, 144]
def k0_off188 (k0_t12 : Fin k0_t12_loop.trips) : Fin 3 → Nat :=
  let c1_i32_272 : BitVec 32 := 1#32
  let v385 : Index := Scalar.indexCast c1_i32_272
  let c0_i32_197 : BitVec 32 := 0#32
  let c1_i32_199 : BitVec 32 := 1#32
  let arg8 : BitVec 32 := Scf.iv c0_i32_197 c1_i32_199 k0_t12
  let v386 : Index := Scalar.indexCast arg8
  let c160_273 : Index := 160#32
  ![1, v386.toNat, 160]
def k0_off189 (k0_t12 : Fin k0_t12_loop.trips) : Fin 3 → Nat :=
  let c1_i32_274 : BitVec 32 := 1#32
  let v390 : Index := Scalar.indexCast c1_i32_274
  let c0_i32_197 : BitVec 32 := 0#32
  let c1_i32_199 : BitVec 32 := 1#32
  let arg8 : BitVec 32 := Scf.iv c0_i32_197 c1_i32_199 k0_t12
  let v391 : Index := Scalar.indexCast arg8
  let c176_275 : Index := 176#32
  ![1, v391.toNat, 176]
def k0_off190 (k0_t12 : Fin k0_t12_loop.trips) : Fin 3 → Nat :=
  let c1_i32_276 : BitVec 32 := 1#32
  let v395 : Index := Scalar.indexCast c1_i32_276
  let c0_i32_197 : BitVec 32 := 0#32
  let c1_i32_199 : BitVec 32 := 1#32
  let arg8 : BitVec 32 := Scf.iv c0_i32_197 c1_i32_199 k0_t12
  let v396 : Index := Scalar.indexCast arg8
  let c192_277 : Index := 192#32
  ![1, v396.toNat, 192]
def k0_off191 (k0_t12 : Fin k0_t12_loop.trips) : Fin 3 → Nat :=
  let c1_i32_278 : BitVec 32 := 1#32
  let v400 : Index := Scalar.indexCast c1_i32_278
  let c0_i32_197 : BitVec 32 := 0#32
  let c1_i32_199 : BitVec 32 := 1#32
  let arg8 : BitVec 32 := Scf.iv c0_i32_197 c1_i32_199 k0_t12
  let v401 : Index := Scalar.indexCast arg8
  let c208_279 : Index := 208#32
  ![1, v401.toNat, 208]
def k0_off192 (k0_t12 : Fin k0_t12_loop.trips) : Fin 3 → Nat :=
  let c1_i32_280 : BitVec 32 := 1#32
  let v405 : Index := Scalar.indexCast c1_i32_280
  let c0_i32_197 : BitVec 32 := 0#32
  let c1_i32_199 : BitVec 32 := 1#32
  let arg8 : BitVec 32 := Scf.iv c0_i32_197 c1_i32_199 k0_t12
  let v406 : Index := Scalar.indexCast arg8
  let c224_281 : Index := 224#32
  ![1, v406.toNat, 224]
def k0_off193 (k0_t12 : Fin k0_t12_loop.trips) : Fin 3 → Nat :=
  let c1_i32_282 : BitVec 32 := 1#32
  let v410 : Index := Scalar.indexCast c1_i32_282
  let c0_i32_197 : BitVec 32 := 0#32
  let c1_i32_199 : BitVec 32 := 1#32
  let arg8 : BitVec 32 := Scf.iv c0_i32_197 c1_i32_199 k0_t12
  let v411 : Index := Scalar.indexCast arg8
  let c240_283 : Index := 240#32
  ![1, v411.toNat, 240]
@[reducible] def k0_t13_loop : Scf.Loop 32 :=
  let c0_i32_211 : BitVec 32 := 0#32
  let c128_i32_212 : BitVec 32 := 128#32
  let v247 : BitVec 32 := Scalar.addi c0_i32_211 c128_i32_212
  let c1_i32_213 : BitVec 32 := 1#32
  ⟨c0_i32_211, v247, c1_i32_213⟩
def k0_off194 (k0_t13 : Fin k0_t13_loop.trips) : Fin 3 → Nat :=
  let c0_i32_252 : BitVec 32 := 0#32
  let v335 : Index := Scalar.indexCast c0_i32_252
  let c0_i32_211 : BitVec 32 := 0#32
  let c1_i32_213 : BitVec 32 := 1#32
  let arg8 : BitVec 32 := Scf.iv c0_i32_211 c1_i32_213 k0_t13
  let v336 : Index := Scalar.indexCast arg8
  let c0_253 : Index := 0#32
  ![0, v336.toNat, 0]
def k0_off195 (k0_t13 : Fin k0_t13_loop.trips) : Fin 3 → Nat :=
  let c0_i32_254 : BitVec 32 := 0#32
  let v340 : Index := Scalar.indexCast c0_i32_254
  let c0_i32_211 : BitVec 32 := 0#32
  let c1_i32_213 : BitVec 32 := 1#32
  let arg8 : BitVec 32 := Scf.iv c0_i32_211 c1_i32_213 k0_t13
  let v341 : Index := Scalar.indexCast arg8
  let c16_255 : Index := 16#32
  ![0, v341.toNat, 16]
def k0_off196 (k0_t13 : Fin k0_t13_loop.trips) : Fin 3 → Nat :=
  let c0_i32_256 : BitVec 32 := 0#32
  let v345 : Index := Scalar.indexCast c0_i32_256
  let c0_i32_211 : BitVec 32 := 0#32
  let c1_i32_213 : BitVec 32 := 1#32
  let arg8 : BitVec 32 := Scf.iv c0_i32_211 c1_i32_213 k0_t13
  let v346 : Index := Scalar.indexCast arg8
  let c32_257 : Index := 32#32
  ![0, v346.toNat, 32]
def k0_off197 (k0_t13 : Fin k0_t13_loop.trips) : Fin 3 → Nat :=
  let c0_i32_258 : BitVec 32 := 0#32
  let v350 : Index := Scalar.indexCast c0_i32_258
  let c0_i32_211 : BitVec 32 := 0#32
  let c1_i32_213 : BitVec 32 := 1#32
  let arg8 : BitVec 32 := Scf.iv c0_i32_211 c1_i32_213 k0_t13
  let v351 : Index := Scalar.indexCast arg8
  let c48_259 : Index := 48#32
  ![0, v351.toNat, 48]
def k0_off198 (k0_t13 : Fin k0_t13_loop.trips) : Fin 3 → Nat :=
  let c0_i32_260 : BitVec 32 := 0#32
  let v355 : Index := Scalar.indexCast c0_i32_260
  let c0_i32_211 : BitVec 32 := 0#32
  let c1_i32_213 : BitVec 32 := 1#32
  let arg8 : BitVec 32 := Scf.iv c0_i32_211 c1_i32_213 k0_t13
  let v356 : Index := Scalar.indexCast arg8
  let c64_261 : Index := 64#32
  ![0, v356.toNat, 64]
def k0_off199 (k0_t13 : Fin k0_t13_loop.trips) : Fin 3 → Nat :=
  let c0_i32_262 : BitVec 32 := 0#32
  let v360 : Index := Scalar.indexCast c0_i32_262
  let c0_i32_211 : BitVec 32 := 0#32
  let c1_i32_213 : BitVec 32 := 1#32
  let arg8 : BitVec 32 := Scf.iv c0_i32_211 c1_i32_213 k0_t13
  let v361 : Index := Scalar.indexCast arg8
  let c80_263 : Index := 80#32
  ![0, v361.toNat, 80]
def k0_off200 (k0_t13 : Fin k0_t13_loop.trips) : Fin 3 → Nat :=
  let c0_i32_264 : BitVec 32 := 0#32
  let v365 : Index := Scalar.indexCast c0_i32_264
  let c0_i32_211 : BitVec 32 := 0#32
  let c1_i32_213 : BitVec 32 := 1#32
  let arg8 : BitVec 32 := Scf.iv c0_i32_211 c1_i32_213 k0_t13
  let v366 : Index := Scalar.indexCast arg8
  let c96_265 : Index := 96#32
  ![0, v366.toNat, 96]
def k0_off201 (k0_t13 : Fin k0_t13_loop.trips) : Fin 3 → Nat :=
  let c0_i32_266 : BitVec 32 := 0#32
  let v370 : Index := Scalar.indexCast c0_i32_266
  let c0_i32_211 : BitVec 32 := 0#32
  let c1_i32_213 : BitVec 32 := 1#32
  let arg8 : BitVec 32 := Scf.iv c0_i32_211 c1_i32_213 k0_t13
  let v371 : Index := Scalar.indexCast arg8
  let c112_267 : Index := 112#32
  ![0, v371.toNat, 112]
def k0_off202 (k0_t13 : Fin k0_t13_loop.trips) : Fin 3 → Nat :=
  let c0_i32_268 : BitVec 32 := 0#32
  let v375 : Index := Scalar.indexCast c0_i32_268
  let c0_i32_211 : BitVec 32 := 0#32
  let c1_i32_213 : BitVec 32 := 1#32
  let arg8 : BitVec 32 := Scf.iv c0_i32_211 c1_i32_213 k0_t13
  let v376 : Index := Scalar.indexCast arg8
  let c128_269 : Index := 128#32
  ![0, v376.toNat, 128]
def k0_off203 (k0_t13 : Fin k0_t13_loop.trips) : Fin 3 → Nat :=
  let c0_i32_270 : BitVec 32 := 0#32
  let v380 : Index := Scalar.indexCast c0_i32_270
  let c0_i32_211 : BitVec 32 := 0#32
  let c1_i32_213 : BitVec 32 := 1#32
  let arg8 : BitVec 32 := Scf.iv c0_i32_211 c1_i32_213 k0_t13
  let v381 : Index := Scalar.indexCast arg8
  let c144_271 : Index := 144#32
  ![0, v381.toNat, 144]
def k0_off204 (k0_t13 : Fin k0_t13_loop.trips) : Fin 3 → Nat :=
  let c0_i32_272 : BitVec 32 := 0#32
  let v385 : Index := Scalar.indexCast c0_i32_272
  let c0_i32_211 : BitVec 32 := 0#32
  let c1_i32_213 : BitVec 32 := 1#32
  let arg8 : BitVec 32 := Scf.iv c0_i32_211 c1_i32_213 k0_t13
  let v386 : Index := Scalar.indexCast arg8
  let c160_273 : Index := 160#32
  ![0, v386.toNat, 160]
def k0_off205 (k0_t13 : Fin k0_t13_loop.trips) : Fin 3 → Nat :=
  let c0_i32_274 : BitVec 32 := 0#32
  let v390 : Index := Scalar.indexCast c0_i32_274
  let c0_i32_211 : BitVec 32 := 0#32
  let c1_i32_213 : BitVec 32 := 1#32
  let arg8 : BitVec 32 := Scf.iv c0_i32_211 c1_i32_213 k0_t13
  let v391 : Index := Scalar.indexCast arg8
  let c176_275 : Index := 176#32
  ![0, v391.toNat, 176]
def k0_off206 (k0_t13 : Fin k0_t13_loop.trips) : Fin 3 → Nat :=
  let c0_i32_276 : BitVec 32 := 0#32
  let v395 : Index := Scalar.indexCast c0_i32_276
  let c0_i32_211 : BitVec 32 := 0#32
  let c1_i32_213 : BitVec 32 := 1#32
  let arg8 : BitVec 32 := Scf.iv c0_i32_211 c1_i32_213 k0_t13
  let v396 : Index := Scalar.indexCast arg8
  let c192_277 : Index := 192#32
  ![0, v396.toNat, 192]
def k0_off207 (k0_t13 : Fin k0_t13_loop.trips) : Fin 3 → Nat :=
  let c0_i32_278 : BitVec 32 := 0#32
  let v400 : Index := Scalar.indexCast c0_i32_278
  let c0_i32_211 : BitVec 32 := 0#32
  let c1_i32_213 : BitVec 32 := 1#32
  let arg8 : BitVec 32 := Scf.iv c0_i32_211 c1_i32_213 k0_t13
  let v401 : Index := Scalar.indexCast arg8
  let c208_279 : Index := 208#32
  ![0, v401.toNat, 208]
def k0_off208 (k0_t13 : Fin k0_t13_loop.trips) : Fin 3 → Nat :=
  let c0_i32_280 : BitVec 32 := 0#32
  let v405 : Index := Scalar.indexCast c0_i32_280
  let c0_i32_211 : BitVec 32 := 0#32
  let c1_i32_213 : BitVec 32 := 1#32
  let arg8 : BitVec 32 := Scf.iv c0_i32_211 c1_i32_213 k0_t13
  let v406 : Index := Scalar.indexCast arg8
  let c224_281 : Index := 224#32
  ![0, v406.toNat, 224]
def k0_off209 (k0_t13 : Fin k0_t13_loop.trips) : Fin 3 → Nat :=
  let c0_i32_282 : BitVec 32 := 0#32
  let v410 : Index := Scalar.indexCast c0_i32_282
  let c0_i32_211 : BitVec 32 := 0#32
  let c1_i32_213 : BitVec 32 := 1#32
  let arg8 : BitVec 32 := Scf.iv c0_i32_211 c1_i32_213 k0_t13
  let v411 : Index := Scalar.indexCast arg8
  let c240_283 : Index := 240#32
  ![0, v411.toNat, 240]
@[reducible] def k0_t14_loop : Scf.Loop 32 :=
  let c0_i32_225 : BitVec 32 := 0#32
  let c128_i32_226 : BitVec 32 := 128#32
  let v262 : BitVec 32 := Scalar.addi c0_i32_225 c128_i32_226
  let c1_i32_227 : BitVec 32 := 1#32
  ⟨c0_i32_225, v262, c1_i32_227⟩
def k0_off210 (k0_t14 : Fin k0_t14_loop.trips) : Fin 3 → Nat :=
  let c1_i32_252 : BitVec 32 := 1#32
  let v335 : Index := Scalar.indexCast c1_i32_252
  let c0_i32_225 : BitVec 32 := 0#32
  let c1_i32_227 : BitVec 32 := 1#32
  let arg8 : BitVec 32 := Scf.iv c0_i32_225 c1_i32_227 k0_t14
  let v336 : Index := Scalar.indexCast arg8
  let c0_253 : Index := 0#32
  ![1, v336.toNat, 0]
def k0_off211 (k0_t14 : Fin k0_t14_loop.trips) : Fin 3 → Nat :=
  let c1_i32_254 : BitVec 32 := 1#32
  let v340 : Index := Scalar.indexCast c1_i32_254
  let c0_i32_225 : BitVec 32 := 0#32
  let c1_i32_227 : BitVec 32 := 1#32
  let arg8 : BitVec 32 := Scf.iv c0_i32_225 c1_i32_227 k0_t14
  let v341 : Index := Scalar.indexCast arg8
  let c16_255 : Index := 16#32
  ![1, v341.toNat, 16]
def k0_off212 (k0_t14 : Fin k0_t14_loop.trips) : Fin 3 → Nat :=
  let c1_i32_256 : BitVec 32 := 1#32
  let v345 : Index := Scalar.indexCast c1_i32_256
  let c0_i32_225 : BitVec 32 := 0#32
  let c1_i32_227 : BitVec 32 := 1#32
  let arg8 : BitVec 32 := Scf.iv c0_i32_225 c1_i32_227 k0_t14
  let v346 : Index := Scalar.indexCast arg8
  let c32_257 : Index := 32#32
  ![1, v346.toNat, 32]
def k0_off213 (k0_t14 : Fin k0_t14_loop.trips) : Fin 3 → Nat :=
  let c1_i32_258 : BitVec 32 := 1#32
  let v350 : Index := Scalar.indexCast c1_i32_258
  let c0_i32_225 : BitVec 32 := 0#32
  let c1_i32_227 : BitVec 32 := 1#32
  let arg8 : BitVec 32 := Scf.iv c0_i32_225 c1_i32_227 k0_t14
  let v351 : Index := Scalar.indexCast arg8
  let c48_259 : Index := 48#32
  ![1, v351.toNat, 48]
def k0_off214 (k0_t14 : Fin k0_t14_loop.trips) : Fin 3 → Nat :=
  let c1_i32_260 : BitVec 32 := 1#32
  let v355 : Index := Scalar.indexCast c1_i32_260
  let c0_i32_225 : BitVec 32 := 0#32
  let c1_i32_227 : BitVec 32 := 1#32
  let arg8 : BitVec 32 := Scf.iv c0_i32_225 c1_i32_227 k0_t14
  let v356 : Index := Scalar.indexCast arg8
  let c64_261 : Index := 64#32
  ![1, v356.toNat, 64]
def k0_off215 (k0_t14 : Fin k0_t14_loop.trips) : Fin 3 → Nat :=
  let c1_i32_262 : BitVec 32 := 1#32
  let v360 : Index := Scalar.indexCast c1_i32_262
  let c0_i32_225 : BitVec 32 := 0#32
  let c1_i32_227 : BitVec 32 := 1#32
  let arg8 : BitVec 32 := Scf.iv c0_i32_225 c1_i32_227 k0_t14
  let v361 : Index := Scalar.indexCast arg8
  let c80_263 : Index := 80#32
  ![1, v361.toNat, 80]
def k0_off216 (k0_t14 : Fin k0_t14_loop.trips) : Fin 3 → Nat :=
  let c1_i32_264 : BitVec 32 := 1#32
  let v365 : Index := Scalar.indexCast c1_i32_264
  let c0_i32_225 : BitVec 32 := 0#32
  let c1_i32_227 : BitVec 32 := 1#32
  let arg8 : BitVec 32 := Scf.iv c0_i32_225 c1_i32_227 k0_t14
  let v366 : Index := Scalar.indexCast arg8
  let c96_265 : Index := 96#32
  ![1, v366.toNat, 96]
def k0_off217 (k0_t14 : Fin k0_t14_loop.trips) : Fin 3 → Nat :=
  let c1_i32_266 : BitVec 32 := 1#32
  let v370 : Index := Scalar.indexCast c1_i32_266
  let c0_i32_225 : BitVec 32 := 0#32
  let c1_i32_227 : BitVec 32 := 1#32
  let arg8 : BitVec 32 := Scf.iv c0_i32_225 c1_i32_227 k0_t14
  let v371 : Index := Scalar.indexCast arg8
  let c112_267 : Index := 112#32
  ![1, v371.toNat, 112]
def k0_off218 (k0_t14 : Fin k0_t14_loop.trips) : Fin 3 → Nat :=
  let c1_i32_268 : BitVec 32 := 1#32
  let v375 : Index := Scalar.indexCast c1_i32_268
  let c0_i32_225 : BitVec 32 := 0#32
  let c1_i32_227 : BitVec 32 := 1#32
  let arg8 : BitVec 32 := Scf.iv c0_i32_225 c1_i32_227 k0_t14
  let v376 : Index := Scalar.indexCast arg8
  let c128_269 : Index := 128#32
  ![1, v376.toNat, 128]
def k0_off219 (k0_t14 : Fin k0_t14_loop.trips) : Fin 3 → Nat :=
  let c1_i32_270 : BitVec 32 := 1#32
  let v380 : Index := Scalar.indexCast c1_i32_270
  let c0_i32_225 : BitVec 32 := 0#32
  let c1_i32_227 : BitVec 32 := 1#32
  let arg8 : BitVec 32 := Scf.iv c0_i32_225 c1_i32_227 k0_t14
  let v381 : Index := Scalar.indexCast arg8
  let c144_271 : Index := 144#32
  ![1, v381.toNat, 144]
def k0_off220 (k0_t14 : Fin k0_t14_loop.trips) : Fin 3 → Nat :=
  let c1_i32_272 : BitVec 32 := 1#32
  let v385 : Index := Scalar.indexCast c1_i32_272
  let c0_i32_225 : BitVec 32 := 0#32
  let c1_i32_227 : BitVec 32 := 1#32
  let arg8 : BitVec 32 := Scf.iv c0_i32_225 c1_i32_227 k0_t14
  let v386 : Index := Scalar.indexCast arg8
  let c160_273 : Index := 160#32
  ![1, v386.toNat, 160]
def k0_off221 (k0_t14 : Fin k0_t14_loop.trips) : Fin 3 → Nat :=
  let c1_i32_274 : BitVec 32 := 1#32
  let v390 : Index := Scalar.indexCast c1_i32_274
  let c0_i32_225 : BitVec 32 := 0#32
  let c1_i32_227 : BitVec 32 := 1#32
  let arg8 : BitVec 32 := Scf.iv c0_i32_225 c1_i32_227 k0_t14
  let v391 : Index := Scalar.indexCast arg8
  let c176_275 : Index := 176#32
  ![1, v391.toNat, 176]
def k0_off222 (k0_t14 : Fin k0_t14_loop.trips) : Fin 3 → Nat :=
  let c1_i32_276 : BitVec 32 := 1#32
  let v395 : Index := Scalar.indexCast c1_i32_276
  let c0_i32_225 : BitVec 32 := 0#32
  let c1_i32_227 : BitVec 32 := 1#32
  let arg8 : BitVec 32 := Scf.iv c0_i32_225 c1_i32_227 k0_t14
  let v396 : Index := Scalar.indexCast arg8
  let c192_277 : Index := 192#32
  ![1, v396.toNat, 192]
def k0_off223 (k0_t14 : Fin k0_t14_loop.trips) : Fin 3 → Nat :=
  let c1_i32_278 : BitVec 32 := 1#32
  let v400 : Index := Scalar.indexCast c1_i32_278
  let c0_i32_225 : BitVec 32 := 0#32
  let c1_i32_227 : BitVec 32 := 1#32
  let arg8 : BitVec 32 := Scf.iv c0_i32_225 c1_i32_227 k0_t14
  let v401 : Index := Scalar.indexCast arg8
  let c208_279 : Index := 208#32
  ![1, v401.toNat, 208]
def k0_off224 (k0_t14 : Fin k0_t14_loop.trips) : Fin 3 → Nat :=
  let c1_i32_280 : BitVec 32 := 1#32
  let v405 : Index := Scalar.indexCast c1_i32_280
  let c0_i32_225 : BitVec 32 := 0#32
  let c1_i32_227 : BitVec 32 := 1#32
  let arg8 : BitVec 32 := Scf.iv c0_i32_225 c1_i32_227 k0_t14
  let v406 : Index := Scalar.indexCast arg8
  let c224_281 : Index := 224#32
  ![1, v406.toNat, 224]
def k0_off225 (k0_t14 : Fin k0_t14_loop.trips) : Fin 3 → Nat :=
  let c1_i32_282 : BitVec 32 := 1#32
  let v410 : Index := Scalar.indexCast c1_i32_282
  let c0_i32_225 : BitVec 32 := 0#32
  let c1_i32_227 : BitVec 32 := 1#32
  let arg8 : BitVec 32 := Scf.iv c0_i32_225 c1_i32_227 k0_t14
  let v411 : Index := Scalar.indexCast arg8
  let c240_283 : Index := 240#32
  ![1, v411.toNat, 240]
@[reducible] def k0_t15_loop : Scf.Loop 32 :=
  let c0_i32_239 : BitVec 32 := 0#32
  let c128_i32_240 : BitVec 32 := 128#32
  let v277 : BitVec 32 := Scalar.addi c0_i32_239 c128_i32_240
  let c1_i32_241 : BitVec 32 := 1#32
  ⟨c0_i32_239, v277, c1_i32_241⟩
def k0_off226 (k0_t15 : Fin k0_t15_loop.trips) : Fin 3 → Nat :=
  let c0_i32_252 : BitVec 32 := 0#32
  let v335 : Index := Scalar.indexCast c0_i32_252
  let c0_i32_239 : BitVec 32 := 0#32
  let c1_i32_241 : BitVec 32 := 1#32
  let arg8 : BitVec 32 := Scf.iv c0_i32_239 c1_i32_241 k0_t15
  let v336 : Index := Scalar.indexCast arg8
  let c0_253 : Index := 0#32
  ![0, v336.toNat, 0]
def k0_off227 (k0_t15 : Fin k0_t15_loop.trips) : Fin 3 → Nat :=
  let c0_i32_254 : BitVec 32 := 0#32
  let v340 : Index := Scalar.indexCast c0_i32_254
  let c0_i32_239 : BitVec 32 := 0#32
  let c1_i32_241 : BitVec 32 := 1#32
  let arg8 : BitVec 32 := Scf.iv c0_i32_239 c1_i32_241 k0_t15
  let v341 : Index := Scalar.indexCast arg8
  let c16_255 : Index := 16#32
  ![0, v341.toNat, 16]
def k0_off228 (k0_t15 : Fin k0_t15_loop.trips) : Fin 3 → Nat :=
  let c0_i32_256 : BitVec 32 := 0#32
  let v345 : Index := Scalar.indexCast c0_i32_256
  let c0_i32_239 : BitVec 32 := 0#32
  let c1_i32_241 : BitVec 32 := 1#32
  let arg8 : BitVec 32 := Scf.iv c0_i32_239 c1_i32_241 k0_t15
  let v346 : Index := Scalar.indexCast arg8
  let c32_257 : Index := 32#32
  ![0, v346.toNat, 32]
def k0_off229 (k0_t15 : Fin k0_t15_loop.trips) : Fin 3 → Nat :=
  let c0_i32_258 : BitVec 32 := 0#32
  let v350 : Index := Scalar.indexCast c0_i32_258
  let c0_i32_239 : BitVec 32 := 0#32
  let c1_i32_241 : BitVec 32 := 1#32
  let arg8 : BitVec 32 := Scf.iv c0_i32_239 c1_i32_241 k0_t15
  let v351 : Index := Scalar.indexCast arg8
  let c48_259 : Index := 48#32
  ![0, v351.toNat, 48]
def k0_off230 (k0_t15 : Fin k0_t15_loop.trips) : Fin 3 → Nat :=
  let c0_i32_260 : BitVec 32 := 0#32
  let v355 : Index := Scalar.indexCast c0_i32_260
  let c0_i32_239 : BitVec 32 := 0#32
  let c1_i32_241 : BitVec 32 := 1#32
  let arg8 : BitVec 32 := Scf.iv c0_i32_239 c1_i32_241 k0_t15
  let v356 : Index := Scalar.indexCast arg8
  let c64_261 : Index := 64#32
  ![0, v356.toNat, 64]
def k0_off231 (k0_t15 : Fin k0_t15_loop.trips) : Fin 3 → Nat :=
  let c0_i32_262 : BitVec 32 := 0#32
  let v360 : Index := Scalar.indexCast c0_i32_262
  let c0_i32_239 : BitVec 32 := 0#32
  let c1_i32_241 : BitVec 32 := 1#32
  let arg8 : BitVec 32 := Scf.iv c0_i32_239 c1_i32_241 k0_t15
  let v361 : Index := Scalar.indexCast arg8
  let c80_263 : Index := 80#32
  ![0, v361.toNat, 80]
def k0_off232 (k0_t15 : Fin k0_t15_loop.trips) : Fin 3 → Nat :=
  let c0_i32_264 : BitVec 32 := 0#32
  let v365 : Index := Scalar.indexCast c0_i32_264
  let c0_i32_239 : BitVec 32 := 0#32
  let c1_i32_241 : BitVec 32 := 1#32
  let arg8 : BitVec 32 := Scf.iv c0_i32_239 c1_i32_241 k0_t15
  let v366 : Index := Scalar.indexCast arg8
  let c96_265 : Index := 96#32
  ![0, v366.toNat, 96]
def k0_off233 (k0_t15 : Fin k0_t15_loop.trips) : Fin 3 → Nat :=
  let c0_i32_266 : BitVec 32 := 0#32
  let v370 : Index := Scalar.indexCast c0_i32_266
  let c0_i32_239 : BitVec 32 := 0#32
  let c1_i32_241 : BitVec 32 := 1#32
  let arg8 : BitVec 32 := Scf.iv c0_i32_239 c1_i32_241 k0_t15
  let v371 : Index := Scalar.indexCast arg8
  let c112_267 : Index := 112#32
  ![0, v371.toNat, 112]
def k0_off234 (k0_t15 : Fin k0_t15_loop.trips) : Fin 3 → Nat :=
  let c0_i32_268 : BitVec 32 := 0#32
  let v375 : Index := Scalar.indexCast c0_i32_268
  let c0_i32_239 : BitVec 32 := 0#32
  let c1_i32_241 : BitVec 32 := 1#32
  let arg8 : BitVec 32 := Scf.iv c0_i32_239 c1_i32_241 k0_t15
  let v376 : Index := Scalar.indexCast arg8
  let c128_269 : Index := 128#32
  ![0, v376.toNat, 128]
def k0_off235 (k0_t15 : Fin k0_t15_loop.trips) : Fin 3 → Nat :=
  let c0_i32_270 : BitVec 32 := 0#32
  let v380 : Index := Scalar.indexCast c0_i32_270
  let c0_i32_239 : BitVec 32 := 0#32
  let c1_i32_241 : BitVec 32 := 1#32
  let arg8 : BitVec 32 := Scf.iv c0_i32_239 c1_i32_241 k0_t15
  let v381 : Index := Scalar.indexCast arg8
  let c144_271 : Index := 144#32
  ![0, v381.toNat, 144]
def k0_off236 (k0_t15 : Fin k0_t15_loop.trips) : Fin 3 → Nat :=
  let c0_i32_272 : BitVec 32 := 0#32
  let v385 : Index := Scalar.indexCast c0_i32_272
  let c0_i32_239 : BitVec 32 := 0#32
  let c1_i32_241 : BitVec 32 := 1#32
  let arg8 : BitVec 32 := Scf.iv c0_i32_239 c1_i32_241 k0_t15
  let v386 : Index := Scalar.indexCast arg8
  let c160_273 : Index := 160#32
  ![0, v386.toNat, 160]
def k0_off237 (k0_t15 : Fin k0_t15_loop.trips) : Fin 3 → Nat :=
  let c0_i32_274 : BitVec 32 := 0#32
  let v390 : Index := Scalar.indexCast c0_i32_274
  let c0_i32_239 : BitVec 32 := 0#32
  let c1_i32_241 : BitVec 32 := 1#32
  let arg8 : BitVec 32 := Scf.iv c0_i32_239 c1_i32_241 k0_t15
  let v391 : Index := Scalar.indexCast arg8
  let c176_275 : Index := 176#32
  ![0, v391.toNat, 176]
def k0_off238 (k0_t15 : Fin k0_t15_loop.trips) : Fin 3 → Nat :=
  let c0_i32_276 : BitVec 32 := 0#32
  let v395 : Index := Scalar.indexCast c0_i32_276
  let c0_i32_239 : BitVec 32 := 0#32
  let c1_i32_241 : BitVec 32 := 1#32
  let arg8 : BitVec 32 := Scf.iv c0_i32_239 c1_i32_241 k0_t15
  let v396 : Index := Scalar.indexCast arg8
  let c192_277 : Index := 192#32
  ![0, v396.toNat, 192]
def k0_off239 (k0_t15 : Fin k0_t15_loop.trips) : Fin 3 → Nat :=
  let c0_i32_278 : BitVec 32 := 0#32
  let v400 : Index := Scalar.indexCast c0_i32_278
  let c0_i32_239 : BitVec 32 := 0#32
  let c1_i32_241 : BitVec 32 := 1#32
  let arg8 : BitVec 32 := Scf.iv c0_i32_239 c1_i32_241 k0_t15
  let v401 : Index := Scalar.indexCast arg8
  let c208_279 : Index := 208#32
  ![0, v401.toNat, 208]
def k0_off240 (k0_t15 : Fin k0_t15_loop.trips) : Fin 3 → Nat :=
  let c0_i32_280 : BitVec 32 := 0#32
  let v405 : Index := Scalar.indexCast c0_i32_280
  let c0_i32_239 : BitVec 32 := 0#32
  let c1_i32_241 : BitVec 32 := 1#32
  let arg8 : BitVec 32 := Scf.iv c0_i32_239 c1_i32_241 k0_t15
  let v406 : Index := Scalar.indexCast arg8
  let c224_281 : Index := 224#32
  ![0, v406.toNat, 224]
def k0_off241 (k0_t15 : Fin k0_t15_loop.trips) : Fin 3 → Nat :=
  let c0_i32_282 : BitVec 32 := 0#32
  let v410 : Index := Scalar.indexCast c0_i32_282
  let c0_i32_239 : BitVec 32 := 0#32
  let c1_i32_241 : BitVec 32 := 1#32
  let arg8 : BitVec 32 := Scf.iv c0_i32_239 c1_i32_241 k0_t15
  let v411 : Index := Scalar.indexCast arg8
  let c240_283 : Index := 240#32
  ![0, v411.toNat, 240]
@[reducible] def k0_t16_loop : Scf.Loop 32 :=
  let c0_i32_248 : BitVec 32 := 0#32
  let c128_i32_249 : BitVec 32 := 128#32
  let v285 : BitVec 32 := Scalar.addi c0_i32_248 c128_i32_249
  let c1_i32_250 : BitVec 32 := 1#32
  ⟨c0_i32_248, v285, c1_i32_250⟩
def k0_off242 (k0_t16 : Fin k0_t16_loop.trips) : Fin 3 → Nat :=
  let c1_i32_252 : BitVec 32 := 1#32
  let v335 : Index := Scalar.indexCast c1_i32_252
  let c0_i32_248 : BitVec 32 := 0#32
  let c1_i32_250 : BitVec 32 := 1#32
  let arg8 : BitVec 32 := Scf.iv c0_i32_248 c1_i32_250 k0_t16
  let v336 : Index := Scalar.indexCast arg8
  let c0_253 : Index := 0#32
  ![1, v336.toNat, 0]
def k0_off243 (k0_t16 : Fin k0_t16_loop.trips) : Fin 3 → Nat :=
  let c1_i32_254 : BitVec 32 := 1#32
  let v340 : Index := Scalar.indexCast c1_i32_254
  let c0_i32_248 : BitVec 32 := 0#32
  let c1_i32_250 : BitVec 32 := 1#32
  let arg8 : BitVec 32 := Scf.iv c0_i32_248 c1_i32_250 k0_t16
  let v341 : Index := Scalar.indexCast arg8
  let c16_255 : Index := 16#32
  ![1, v341.toNat, 16]
def k0_off244 (k0_t16 : Fin k0_t16_loop.trips) : Fin 3 → Nat :=
  let c1_i32_256 : BitVec 32 := 1#32
  let v345 : Index := Scalar.indexCast c1_i32_256
  let c0_i32_248 : BitVec 32 := 0#32
  let c1_i32_250 : BitVec 32 := 1#32
  let arg8 : BitVec 32 := Scf.iv c0_i32_248 c1_i32_250 k0_t16
  let v346 : Index := Scalar.indexCast arg8
  let c32_257 : Index := 32#32
  ![1, v346.toNat, 32]
def k0_off245 (k0_t16 : Fin k0_t16_loop.trips) : Fin 3 → Nat :=
  let c1_i32_258 : BitVec 32 := 1#32
  let v350 : Index := Scalar.indexCast c1_i32_258
  let c0_i32_248 : BitVec 32 := 0#32
  let c1_i32_250 : BitVec 32 := 1#32
  let arg8 : BitVec 32 := Scf.iv c0_i32_248 c1_i32_250 k0_t16
  let v351 : Index := Scalar.indexCast arg8
  let c48_259 : Index := 48#32
  ![1, v351.toNat, 48]
def k0_off246 (k0_t16 : Fin k0_t16_loop.trips) : Fin 3 → Nat :=
  let c1_i32_260 : BitVec 32 := 1#32
  let v355 : Index := Scalar.indexCast c1_i32_260
  let c0_i32_248 : BitVec 32 := 0#32
  let c1_i32_250 : BitVec 32 := 1#32
  let arg8 : BitVec 32 := Scf.iv c0_i32_248 c1_i32_250 k0_t16
  let v356 : Index := Scalar.indexCast arg8
  let c64_261 : Index := 64#32
  ![1, v356.toNat, 64]
def k0_off247 (k0_t16 : Fin k0_t16_loop.trips) : Fin 3 → Nat :=
  let c1_i32_262 : BitVec 32 := 1#32
  let v360 : Index := Scalar.indexCast c1_i32_262
  let c0_i32_248 : BitVec 32 := 0#32
  let c1_i32_250 : BitVec 32 := 1#32
  let arg8 : BitVec 32 := Scf.iv c0_i32_248 c1_i32_250 k0_t16
  let v361 : Index := Scalar.indexCast arg8
  let c80_263 : Index := 80#32
  ![1, v361.toNat, 80]
def k0_off248 (k0_t16 : Fin k0_t16_loop.trips) : Fin 3 → Nat :=
  let c1_i32_264 : BitVec 32 := 1#32
  let v365 : Index := Scalar.indexCast c1_i32_264
  let c0_i32_248 : BitVec 32 := 0#32
  let c1_i32_250 : BitVec 32 := 1#32
  let arg8 : BitVec 32 := Scf.iv c0_i32_248 c1_i32_250 k0_t16
  let v366 : Index := Scalar.indexCast arg8
  let c96_265 : Index := 96#32
  ![1, v366.toNat, 96]
def k0_off249 (k0_t16 : Fin k0_t16_loop.trips) : Fin 3 → Nat :=
  let c1_i32_266 : BitVec 32 := 1#32
  let v370 : Index := Scalar.indexCast c1_i32_266
  let c0_i32_248 : BitVec 32 := 0#32
  let c1_i32_250 : BitVec 32 := 1#32
  let arg8 : BitVec 32 := Scf.iv c0_i32_248 c1_i32_250 k0_t16
  let v371 : Index := Scalar.indexCast arg8
  let c112_267 : Index := 112#32
  ![1, v371.toNat, 112]
def k0_off250 (k0_t16 : Fin k0_t16_loop.trips) : Fin 3 → Nat :=
  let c1_i32_268 : BitVec 32 := 1#32
  let v375 : Index := Scalar.indexCast c1_i32_268
  let c0_i32_248 : BitVec 32 := 0#32
  let c1_i32_250 : BitVec 32 := 1#32
  let arg8 : BitVec 32 := Scf.iv c0_i32_248 c1_i32_250 k0_t16
  let v376 : Index := Scalar.indexCast arg8
  let c128_269 : Index := 128#32
  ![1, v376.toNat, 128]
def k0_off251 (k0_t16 : Fin k0_t16_loop.trips) : Fin 3 → Nat :=
  let c1_i32_270 : BitVec 32 := 1#32
  let v380 : Index := Scalar.indexCast c1_i32_270
  let c0_i32_248 : BitVec 32 := 0#32
  let c1_i32_250 : BitVec 32 := 1#32
  let arg8 : BitVec 32 := Scf.iv c0_i32_248 c1_i32_250 k0_t16
  let v381 : Index := Scalar.indexCast arg8
  let c144_271 : Index := 144#32
  ![1, v381.toNat, 144]
def k0_off252 (k0_t16 : Fin k0_t16_loop.trips) : Fin 3 → Nat :=
  let c1_i32_272 : BitVec 32 := 1#32
  let v385 : Index := Scalar.indexCast c1_i32_272
  let c0_i32_248 : BitVec 32 := 0#32
  let c1_i32_250 : BitVec 32 := 1#32
  let arg8 : BitVec 32 := Scf.iv c0_i32_248 c1_i32_250 k0_t16
  let v386 : Index := Scalar.indexCast arg8
  let c160_273 : Index := 160#32
  ![1, v386.toNat, 160]
def k0_off253 (k0_t16 : Fin k0_t16_loop.trips) : Fin 3 → Nat :=
  let c1_i32_274 : BitVec 32 := 1#32
  let v390 : Index := Scalar.indexCast c1_i32_274
  let c0_i32_248 : BitVec 32 := 0#32
  let c1_i32_250 : BitVec 32 := 1#32
  let arg8 : BitVec 32 := Scf.iv c0_i32_248 c1_i32_250 k0_t16
  let v391 : Index := Scalar.indexCast arg8
  let c176_275 : Index := 176#32
  ![1, v391.toNat, 176]
def k0_off254 (k0_t16 : Fin k0_t16_loop.trips) : Fin 3 → Nat :=
  let c1_i32_276 : BitVec 32 := 1#32
  let v395 : Index := Scalar.indexCast c1_i32_276
  let c0_i32_248 : BitVec 32 := 0#32
  let c1_i32_250 : BitVec 32 := 1#32
  let arg8 : BitVec 32 := Scf.iv c0_i32_248 c1_i32_250 k0_t16
  let v396 : Index := Scalar.indexCast arg8
  let c192_277 : Index := 192#32
  ![1, v396.toNat, 192]
def k0_off255 (k0_t16 : Fin k0_t16_loop.trips) : Fin 3 → Nat :=
  let c1_i32_278 : BitVec 32 := 1#32
  let v400 : Index := Scalar.indexCast c1_i32_278
  let c0_i32_248 : BitVec 32 := 0#32
  let c1_i32_250 : BitVec 32 := 1#32
  let arg8 : BitVec 32 := Scf.iv c0_i32_248 c1_i32_250 k0_t16
  let v401 : Index := Scalar.indexCast arg8
  let c208_279 : Index := 208#32
  ![1, v401.toNat, 208]
def k0_off256 (k0_t16 : Fin k0_t16_loop.trips) : Fin 3 → Nat :=
  let c1_i32_280 : BitVec 32 := 1#32
  let v405 : Index := Scalar.indexCast c1_i32_280
  let c0_i32_248 : BitVec 32 := 0#32
  let c1_i32_250 : BitVec 32 := 1#32
  let arg8 : BitVec 32 := Scf.iv c0_i32_248 c1_i32_250 k0_t16
  let v406 : Index := Scalar.indexCast arg8
  let c224_281 : Index := 224#32
  ![1, v406.toNat, 224]
def k0_off257 (k0_t16 : Fin k0_t16_loop.trips) : Fin 3 → Nat :=
  let c1_i32_282 : BitVec 32 := 1#32
  let v410 : Index := Scalar.indexCast c1_i32_282
  let c0_i32_248 : BitVec 32 := 0#32
  let c1_i32_250 : BitVec 32 := 1#32
  let arg8 : BitVec 32 := Scf.iv c0_i32_248 c1_i32_250 k0_t16
  let v411 : Index := Scalar.indexCast arg8
  let c240_283 : Index := 240#32
  ![1, v411.toNat, 240]
def k0_off258 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c256_i32 : BitVec 32 := 256#32
  let v30 : BitVec 32 := Scalar.muli v28 c256_i32
  ![v18.toNat, v30.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x512 : Shape := ⟨2, ![32768, 512]⟩
abbrev S16 : Shape := ⟨1, ![16]⟩
abbrev S1 : Shape := ⟨1, ![1]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S16x512 : Shape := ⟨2, ![16, 512]⟩

abbrev nBuf : Space → Nat
  | .hbm => 58
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S16, .i32⟩
  | .hbm, ⟨3, _⟩ => ⟨S1, .i32⟩
  | .hbm, ⟨4, _⟩ => ⟨S15, .i32⟩
  | .hbm, ⟨5, _⟩ => ⟨S16, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S16, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S32768, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S_, .i32⟩
  | .hbm, ⟨24, _⟩ => ⟨S16, .i32⟩
  | .hbm, ⟨25, _⟩ => ⟨S32768, .i32⟩
  | .hbm, ⟨26, _⟩ => ⟨S_, .i32⟩
  | .hbm, ⟨27, _⟩ => ⟨S_, .i32⟩
  | .hbm, ⟨28, _⟩ => ⟨S32768, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S1, .i32⟩
  | .hbm, ⟨41, _⟩ => ⟨S_, .i32⟩
  | .hbm, ⟨42, _⟩ => ⟨S32768x1, .i32⟩
  | .hbm, ⟨43, _⟩ => ⟨S32768x1, .i1⟩
  | .hbm, ⟨44, _⟩ => ⟨S1x1, .i32⟩
  | .hbm, ⟨45, _⟩ => ⟨S32768x1, .i32⟩
  | .hbm, ⟨46, _⟩ => ⟨S32768x1, .i1⟩
  | .hbm, ⟨47, _⟩ => ⟨S32768x1, .i1⟩
  | .hbm, ⟨48, _⟩ => ⟨S_, .i1⟩
  | .hbm, ⟨49, _⟩ => ⟨S32768, .i1⟩
  | .hbm, ⟨50, _⟩ => ⟨S32768, .i32⟩
  | .hbm, ⟨51, _⟩ => ⟨S_, .i32⟩
  | .hbm, ⟨52, _⟩ => ⟨S32768, .i32⟩
  | .hbm, ⟨53, _⟩ => ⟨S32768, .i32⟩
  | .hbm, ⟨54, _⟩ => ⟨S_, .f32⟩
  | .hbm, ⟨55, _⟩ => ⟨S16x512, .f32⟩
  | .hbm, ⟨56, _⟩ => ⟨S32768x1, .i32⟩
  | .hbm, ⟨57, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_call1_call0_c : Ref sig .tc := ⟨.hbm, 10, rfl⟩
abbrev main_call1_call0_v0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_v16 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_c_4 : Ref sig .tc := ⟨.hbm, 51, rfl⟩
abbrev main_call3_v14 : Ref sig .tc := ⟨.hbm, 52, rfl⟩
abbrev main_v17 : Ref sig .tc := ⟨.hbm, 53, rfl⟩
abbrev main_cst : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩

abbrev nD : Nat := 1
abbrev τ : Topo := Topo.v7x

variable {F : FTy → Type} [FloatOps F]
-- ==== Proof.KernelIdealSteps.lean ====
/-
  The kernel's body as a list of steps: start the copy of a block, wait for a block and add its rows.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## One trip of a block's loop, written once for both halves of the scratch -/

/-- The sixteen accumulators a loop carries, one per group of sixteen columns. -/
abbrev Accs (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- The accumulators listed by a function of the column group. -/
def tup (g : Fin 16 → FVec F S16 .f32) : Accs F :=
  (g 0, g 1, g 2, g 3, g 4, g 5, g 6, g 7, g 8, g 9, g 10, g 11, g 12, g 13, g 14, g 15)

/-- The programs of tile `i`. -/
abbrev TProg (F : FTy → Type) (i : grid0.Coords) (α : Type) : Type 1 :=
  Prog (TpuEff nD τ sig (Elt F) Λ₀ (.scVector ((i 0).castLE hcore0) ((i 1).castLE hsub0))) α

/-- Where trip `k` reads the scratch's half `b`, column group `j`. -/
def readOff (b : Fin 2) (k : Fin k0_t1_loop.trips) (j : Fin 16) : Fin 3 → Nat :=
  ![b.val, (Scalar.indexCast (Scf.iv 0#32 1#32 k) : Index).toNat, 16 * j.val]

theorem readOff_eq (b : Fin 2) (k : Fin k0_t1_loop.trips) (j : Fin 16) : readOff b k j = ![b.val, k.val, 16 * j.val] := by
  have h : ∀ k : Fin k0_t1_loop.trips, (Scalar.indexCast (Scf.iv 0#32 1#32 k) : Index).toNat = k.val := by decide +kernel
  unfold readOff; rw [h k]

theorem readOff_inb (b : Fin 2) (k : Fin k0_t1_loop.trips) (j : Fin 16) (a : Fin 3) :
    readOff b k j a + S1x1x16.size a ≤ S2x128x256.size a := by
  rw [readOff_eq]
  have hk : k.val < 128 := k.isLt
  have hb := b.isLt
  have hj := j.isLt
  fin_cases a <;> simp [S1x1x16, S2x128x256] <;> omega

/-- Read sixteen elements of the scratch and add them to an accumulator. -/
def addRead {α : Type} (i : grid0.Coords) (arg4 : Memref sig .scVector .vmem S2x128x256 .f32) (b : Fin 2) (k : Fin k0_t1_loop.trips) (j : Fin 16)
    (acc : FVec F S16 .f32) (cont : FVec F S16 .f32 → TProg F i α) : TProg F i α :=
  .op (.load arg4 (Rect.unit (s := S2x128x256) (readOff b k j) S1x1x16.size (readOff_inb b k j)).toLoadRect (View.loadsAt_vmem h_S1x1x16))
    fun v => cont (addf acc (shapeCast S16 v shapeCasts_S1x1x16_S16))

/-- A whole trip: the row's sixteen column groups, one after the other. -/
def trip (i : grid0.Coords) (arg4 : Memref sig .scVector .vmem S2x128x256 .f32) (b : Fin 2) (k : Fin k0_t1_loop.trips) : Accs F → TProg F i (Accs F) :=
  fun (a0, a1, a2, a3, a4, a5, a6, a7, a8, a9, a10, a11, a12, a13, a14, a15) =>
    addRead i arg4 b k 0 a0 fun c0 =>
    addRead i arg4 b k 1 a1 fun c1 =>
    addRead i arg4 b k 2 a2 fun c2 =>
    addRead i arg4 b k 3 a3 fun c3 =>
    addRead i arg4 b k 4 a4 fun c4 =>
    addRead i arg4 b k 5 a5 fun c5 =>
    addRead i arg4 b k 6 a6 fun c6 =>
    addRead i arg4 b k 7 a7 fun c7 =>
    addRead i arg4 b k 8 a8 fun c8 =>
    addRead i arg4 b k 9 a9 fun c9 =>
    addRead i arg4 b k 10 a10 fun c10 =>
    addRead i arg4 b k 11 a11 fun c11 =>
    addRead i arg4 b k 12 a12 fun c12 =>
    addRead i arg4 b k 13 a13 fun c13 =>
    addRead i arg4 b k 14 a14 fun c14 =>
    addRead i arg4 b k 15 a15 fun c15 =>
    Prog.ret (c0, c1, c2, c3, c4, c5, c6, c7, c8, c9, c10, c11, c12, c13, c14, c15)

/-! ## The steps the kernel is a list of -/

/-- Block `r` of tile `i`: 128 rows of its graph, its half of the columns. -/
abbrev srcBlk (i : grid0.Coords) (arg2 : Memref sig .scVector .hbm S32768x512 .f32) (r : Fin 16) : Memref sig .scVector .hbm S128x256 .f32 :=
  arg2.slice (Rect.unit (s := S32768x512) (k0_off1 i (BitVec.ofNat 32 (128 * r.val))) S128x256.size (k0_off1_inb i r)) (fun _ => rfl)

theorem half_inb (b : Fin 2) (a : Fin 3) : (![b.val, 0, 0] : Fin 3 → Nat) a + S1x128x256.size a ≤ S2x128x256.size a := by
  have hb := b.isLt
  fin_cases a <;> simp [S1x128x256, S2x128x256]; omega

/-- Half `b` of the scratch, where a block lands. -/
abbrev half (arg4 : Memref sig .scVector .vmem S2x128x256 .f32) (b : Fin 2) : Memref sig .scVector .vmem S128x256 .f32 :=
  (arg4.slice (Rect.unit (s := S2x128x256) ![b.val, 0, 0] S1x128x256.size (half_inb b)) (fun _ => rfl)).squeeze S128x256 squeezes_S1x128x256_S128x256

/-- Start the copy of block `r` into half `b`. -/
def issue {α : Type} (i : grid0.Coords) (arg2 : Memref sig .scVector .hbm S32768x512 .f32) (arg4 : Memref sig .scVector .vmem S2x128x256 .f32)
    (sm : DmaSems sig S_) (b : Fin 2) (r : Fin 16) (cont : TProg F i α) : TProg F i α :=
  .op (.enqueueDma (srcBlk i arg2 r) (.here (half arg4 b)) (.dma sm.sem) (View.wordExact_bits rfl) ((View.wordExact_bits rfl).reshape _ _) ⟨Or.inl rfl, trivial⟩)
    fun _ => cont

/-- Wait for block `r` in half `b`. -/
def land {α : Type} (i : grid0.Coords) (arg2 : Memref sig .scVector .hbm S32768x512 .f32) (arg4 : Memref sig .scVector .vmem S2x128x256 .f32)
    (sm : DmaSems sig S_) (b : Fin 2) (r : Fin 16) (cont : TProg F i α) : TProg F i α :=
  .op (.waitDma2 sm.sem (srcBlk i arg2 r) (half arg4 b) (View.wordExact_bits rfl) ((View.wordExact_bits rfl).reshape _ _))
    fun _ => cont

/-- Add the 128 rows of half `b` to the accumulators. -/
def addRows {α : Type} (i : grid0.Coords) (arg4 : Memref sig .scVector .vmem S2x128x256 .f32) (b : Fin 2) (acc : Accs F)
    (cont : Accs F → TProg F i α) : TProg F i α :=
  Scf.Loop.for k0_t1_loop k0_t1_ok acc (trip i arg4 b) >>= cont

/-- Wait for a block and add its rows. -/
def collect {α : Type} (i : grid0.Coords) (arg2 : Memref sig .scVector .hbm S32768x512 .f32) (arg4 : Memref sig .scVector .vmem S2x128x256 .f32)
    (sm : DmaSems sig S_) (b : Fin 2) (r : Fin 16) (acc : Accs F) (cont : Accs F → TProg F i α) : TProg F i α :=
  land i arg2 arg4 sm b r (addRows i arg4 b acc cont)

theorem sumOff_inb (j : Fin 16) (a : Fin 1) : (![16 * j.val] : Fin 1 → Nat) a + S16.size a ≤ S256.size a := by
  have hj := j.isLt
  fin_cases a; simp [S16, S256]; omega

/-- Read the sixteen sums at column group `j` (the kernel drops what it reads). -/
def peek {α : Type} (i : grid0.Coords) (arg5 : Memref sig .scVector .vmem S256 .f32) (j : Fin 16) (cont : Vec F S16 .f32 → TProg F i α) : TProg F i α :=
  .op (.load arg5 (Rect.unit (s := S256) ![16 * j.val] S16.size (sumOff_inb j)).toLoadRect (View.loadsAt_vmem h_S16)) cont

/-- Store an accumulator at column group `j` of the sums. -/
def put {α : Type} (i : grid0.Coords) (arg5 : Memref sig .scVector .vmem S256 .f32) (j : Fin 16) (v : FVec F S16 .f32) (cont : TProg F i α) : TProg F i α :=
  .op (.store arg5 (Rect.unit (s := S256) ![16 * j.val] S16.size (sumOff_inb j)) (shapeCast S16 v shapeCasts_S16_S16) Finset.univ
    (View.stores_vmem_bits_univ h_S16 rfl) (.inl rfl)) fun _ => cont

/-- The tile's part of a row of the result. -/
abbrev outRow (i : grid0.Coords) (arg3 : Memref sig .scVector .hbm S16x512 .f32) : Memref sig .scVector .hbm S256 .f32 :=
  (arg3.slice (Rect.unit (s := S16x512) (k0_off258 i) S1x256.size (k0_off258_inb i)) (fun _ => rfl)).squeeze S256 squeezes_S1x256_S256

/-- Copy the sums out and wait for the copy. -/
def flush (i : grid0.Coords) (arg3 : Memref sig .scVector .hbm S16x512 .f32) (arg5 : Memref sig .scVector .vmem S256 .f32) (harg5 : arg5.IsWhole)
    (so : DmaSems sig S_) : TProg F i PUnit :=
  .op (.enqueueDma arg5 (.here (outRow i arg3)) (.dma so.sem) harg5.wordExact ((View.wordExact_bits rfl).reshape _ _) ⟨Or.inl rfl, trivial⟩) fun _ =>
  .op (.waitDma2 so.sem arg5 (outRow i arg3) harg5.wordExact ((View.wordExact_bits rfl).reshape _ _)) fun _ => .ret ⟨⟩

/-- The accumulators as a window of the body hands them on. -/
abbrev Pack (F : FTy → Type) : Type :=
  Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32), FVec F S16 .f32

/-- The same with one more number after them. -/
abbrev PackW (F : FTy → Type) : Type :=
  Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32), BitVec 32

def pack : Accs F → Pack F := fun (a0, a1, a2, a3, a4, a5, a6, a7, a8, a9, a10, a11, a12, a13, a14, a15) => ⟨a0, a1, a2, a3, a4, a5, a6, a7, a8, a9, a10, a11, a12, a13, a14, a15⟩

def packW (w : BitVec 32) : Accs F → PackW F := fun (a0, a1, a2, a3, a4, a5, a6, a7, a8, a9, a10, a11, a12, a13, a14, a15) => ⟨a0, a1, a2, a3, a4, a5, a6, a7, a8, a9, a10, a11, a12, a13, a14, a15, w⟩

section Windows

variable (i : grid0.Coords) (arg2 : Memref sig .scVector .hbm S32768x512 .f32) (harg2 : arg2.IsWhole) (arg3 : Memref sig .scVector .hbm S16x512 .f32)
  (harg3 : arg3.IsWhole) (arg4 : Memref sig .scVector .vmem S2x128x256 .f32) (harg4 : arg4.IsWhole) (arg5 : Memref sig .scVector .vmem S256 .f32)
  (harg5 : arg5.IsWhole) (s0 s1 so : DmaSems sig S_) (w w' : BitVec 32)
  (x0 x1 x2 x3 x4 x5 x6 x7 x8 x9 x10 x11 x12 x13 x14 x15 : FVec F S16 .f32)

/-! Each window of the body is these steps. -/

set_option maxRecDepth 65536 in
theorem part18_eq : k0_part18 (F := F) i arg2 harg2 arg3 harg3 arg4 harg4 arg5 harg5 s0 s1 so w  =
      (issue i arg2 arg4 s0 0 0 <|
      issue i arg2 arg4 s1 1 1 <|
      Prog.ret ⟨k0_pay132 (F := F), k0_pay133 (F := F), k0_pay134 (F := F), k0_pay135 (F := F), k0_pay136 (F := F), k0_pay137 (F := F), k0_pay138 (F := F), k0_pay139 (F := F), k0_pay140 (F := F), k0_pay141 (F := F), k0_pay142 (F := F), k0_pay143 (F := F), k0_pay144 (F := F), k0_pay145 (F := F), k0_pay146 (F := F), k0_pay147 (F := F)⟩) := rfl

set_option maxRecDepth 65536 in
theorem part19_eq : k0_part19 (F := F) i arg2 harg2 arg3 harg3 arg4 harg4 arg5 harg5 s0 s1 so w x0 x1 x2 x3 x4 x5 x6 x7 x8 x9 x10 x11 x12 x13 x14 x15 =
      (collect i arg2 arg4 s0 0 0 (x0, x1, x2, x3, x4, x5, x6, x7, x8, x9, x10, x11, x12, x13, x14, x15) fun y =>
      issue i arg2 arg4 s0 0 2 <|
      collect i arg2 arg4 s1 1 1 y fun z =>
      issue i arg2 arg4 s1 1 3 <|
      Prog.ret (pack z)) := rfl

set_option maxRecDepth 65536 in
theorem part20_eq : k0_part20 (F := F) i arg2 harg2 arg3 harg3 arg4 harg4 arg5 harg5 s0 s1 so w x0 x1 x2 x3 x4 x5 x6 x7 x8 x9 x10 x11 x12 x13 x14 x15 =
      (collect i arg2 arg4 s0 0 2 (x0, x1, x2, x3, x4, x5, x6, x7, x8, x9, x10, x11, x12, x13, x14, x15) fun y =>
      issue i arg2 arg4 s0 0 4 <|
      collect i arg2 arg4 s1 1 3 y fun z =>
      issue i arg2 arg4 s1 1 5 <|
      Prog.ret (pack z)) := rfl

set_option maxRecDepth 65536 in
theorem part21_eq : k0_part21 (F := F) i arg2 harg2 arg3 harg3 arg4 harg4 arg5 harg5 s0 s1 so w x0 x1 x2 x3 x4 x5 x6 x7 x8 x9 x10 x11 x12 x13 x14 x15 =
      (collect i arg2 arg4 s0 0 4 (x0, x1, x2, x3, x4, x5, x6, x7, x8, x9, x10, x11, x12, x13, x14, x15) fun y =>
      issue i arg2 arg4 s0 0 6 <|
      collect i arg2 arg4 s1 1 5 y fun z =>
      Prog.ret (pack z)) := rfl

set_option maxRecDepth 65536 in
theorem part22_eq : k0_part22 (F := F) i arg2 harg2 arg3 harg3 arg4 harg4 arg5 harg5 s0 s1 so w x0 x1 x2 x3 x4 x5 x6 x7 x8 x9 x10 x11 x12 x13 x14 x15 =
      (issue i arg2 arg4 s1 1 7 <|
      collect i arg2 arg4 s0 0 6 (x0, x1, x2, x3, x4, x5, x6, x7, x8, x9, x10, x11, x12, x13, x14, x15) fun y =>
      issue i arg2 arg4 s0 0 8 <|
      collect i arg2 arg4 s1 1 7 y fun z =>
      Prog.ret (pack z)) := rfl

set_option maxRecDepth 65536 in
theorem part23_eq : k0_part23 (F := F) i arg2 harg2 arg3 harg3 arg4 harg4 arg5 harg5 s0 s1 so w x0 x1 x2 x3 x4 x5 x6 x7 x8 x9 x10 x11 x12 x13 x14 x15 =
      (issue i arg2 arg4 s1 1 9 <|
      collect i arg2 arg4 s0 0 8 (x0, x1, x2, x3, x4, x5, x6, x7, x8, x9, x10, x11, x12, x13, x14, x15) fun y =>
      issue i arg2 arg4 s0 0 10 <|
      collect i arg2 arg4 s1 1 9 y fun z =>
      Prog.ret (pack z)) := rfl

set_option maxRecDepth 65536 in
theorem part24_eq : k0_part24 (F := F) i arg2 harg2 arg3 harg3 arg4 harg4 arg5 harg5 s0 s1 so w x0 x1 x2 x3 x4 x5 x6 x7 x8 x9 x10 x11 x12 x13 x14 x15 =
      (issue i arg2 arg4 s1 1 11 <|
      collect i arg2 arg4 s0 0 10 (x0, x1, x2, x3, x4, x5, x6, x7, x8, x9, x10, x11, x12, x13, x14, x15) fun y =>
      issue i arg2 arg4 s0 0 12 <|
      collect i arg2 arg4 s1 1 11 y fun z =>
      Prog.ret (packW 1664#32 z)) := rfl

set_option maxRecDepth 65536 in
theorem part25_eq : k0_part25 (F := F) i arg2 harg2 arg3 harg3 arg4 harg4 arg5 harg5 s0 s1 so w x0 x1 x2 x3 x4 x5 x6 x7 x8 x9 x10 x11 x12 x13 x14 x15 w' =
      (issue i arg2 arg4 s1 1 13 <|
      collect i arg2 arg4 s0 0 12 (x0, x1, x2, x3, x4, x5, x6, x7, x8, x9, x10, x11, x12, x13, x14, x15) fun y =>
      issue i arg2 arg4 s0 0 14 <|
      land i arg2 arg4 s1 1 13 (Prog.ret (packW 0#32 y))) := rfl

set_option maxRecDepth 65536 in
theorem part26_eq : k0_part26 (F := F) i arg2 harg2 arg3 harg3 arg4 harg4 arg5 harg5 s0 s1 so w x0 x1 x2 x3 x4 x5 x6 x7 x8 x9 x10 x11 x12 x13 x14 x15 w' =
      (addRows i arg4 1 (x0, x1, x2, x3, x4, x5, x6, x7, x8, x9, x10, x11, x12, x13, x14, x15) fun y =>
      issue i arg2 arg4 s1 1 15 <|
      collect i arg2 arg4 s0 0 14 y fun z =>
      collect i arg2 arg4 s1 1 15 z fun (a0, a1, a2, a3, a4, a5, a6, a7, a8, a9, a10, a11, a12, a13, a14, a15) =>
      peek i arg5 0 fun _ => put i arg5 0 a0 <| peek i arg5 1 fun v =>
      Prog.ret ⟨a1, a2, a3, a4, a5, a6, a7, a8, a9, a10, a11, a12, a13, a14, a15, v⟩) := rfl

set_option maxRecDepth 65536 in
theorem part27_eq (v : Vec F S16 .f32) : k0_part27 (F := F) i arg2 harg2 arg3 harg3 arg4 harg4 arg5 harg5 s0 s1 so x1 x2 x3 x4 x5 x6 x7 x8 x9 x10 x11 x12 v =
      (put i arg5 1 x1 <|
      peek i arg5 2 fun _ => put i arg5 2 x2 <|
      peek i arg5 3 fun _ => put i arg5 3 x3 <|
      peek i arg5 4 fun _ => put i arg5 4 x4 <|
      peek i arg5 5 fun _ => put i arg5 5 x5 <|
      peek i arg5 6 fun _ => put i arg5 6 x6 <|
      peek i arg5 7 fun _ => put i arg5 7 x7 <|
      peek i arg5 8 fun _ => put i arg5 8 x8 <|
      peek i arg5 9 fun _ => put i arg5 9 x9 <|
      peek i arg5 10 fun _ => put i arg5 10 x10 <|
      peek i arg5 11 fun _ => put i arg5 11 x11 <|
      peek i arg5 12 fun _ => put i arg5 12 x12 <|
      peek i arg5 13 fun v => Prog.ret v) := rfl

/-- The last three column groups, and the copy out. -/
def finish (v13 v14 v15 : FVec F S16 .f32) : TProg F i PUnit :=
  put i arg5 13 v13 <| peek i arg5 14 fun _ => put i arg5 14 v14 <| peek i arg5 15 fun _ => put i arg5 15 v15 <| flush i arg3 arg5 harg5 so

end Windows

end Cert.KernelIdeal.Rows
-- ==== Proof.KernelIdealBody.lean ====
/-
  One tile of the kernel.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.KernelIdealSteps

@[expose] public section

noncomputable section

namespace Cert.KernelIdeal.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The logic the launch is proved in -/

/-- The labels the launch's programs run over. -/
abbrev ΛP : Labels := Pipeline.Sig Λ₀ (Fin 0) fun p => (pcfgs (F := F) p).Adm
/-- The program's SparseCore calls. -/
abbrev K : SparseCore.Cfg τ sig (ΛP (F := F)) 1 := sc (F := F)
/-- No variants are counted: every loop of the program is a counted one. -/
abbrev 𝒱₀ : Variants := Variants.none

/-- The handshakes' rounds, beside which the transfers' counters are kept. -/
abbrev UH : Type := URounds (GSem nD τ sig) ℕ
abbrev UU : Type := UH × Counters

local notation "𝕄" => MT nD τ sig (HIx 1) (Elt F) ℕ UU ℕ

/-! ## The tile, its memory, its values -/

/-- The SparseCore and the subcore of tile `i`. -/
abbrev cV (i : grid0.Coords) : Fin τ.nSC := (i 0).castLE hcore0
abbrev jV (i : grid0.Coords) : Fin τ.nSub := (i 1).castLE hsub0

local notation "hV" => (Memref.whole Cert.KernelIdeal.main_arg0_scv : Memref Cert.KernelIdeal.sig Kind.scVector Space.hbm Cert.KernelIdeal.S32768x512 EltTy.f32)
local notation "oV" => (Memref.whole Cert.KernelIdeal.main_v0_scv : Memref Cert.KernelIdeal.sig Kind.scVector Space.hbm Cert.KernelIdeal.S16x512 EltTy.f32)
local notation "bV" => (Memref.whole Cert.KernelIdeal.cc0_scratch0 : Memref Cert.KernelIdeal.sig Kind.scVector Space.vmem Cert.KernelIdeal.S2x128x256 EltTy.f32)
local notation "aV" => (Memref.whole Cert.KernelIdeal.cc0_scratch1 : Memref Cert.KernelIdeal.sig Kind.scVector Space.vmem Cert.KernelIdeal.S256 EltTy.f32)

/-- The array of rows, an element of it by row and column (the row taken modulo the number of rows). -/
def rowAt (H : S32768x512.Idx → F .f32) (row : ℕ) (col : Fin 512) : F .f32 :=
  H fun | 0 => ⟨row % 32768, Nat.mod_lt _ (by decide)⟩ | 1 => col

/-- The sum of the first `n` rows of graph `s` at a column, added one row after the other from zero. -/
def colSum (H : S32768x512.Idx → F .f32) (s : Fin 16) (col : Fin 512) : ℕ → F .f32
  | 0 => Scalar.ofBits .f32 0x00000000#32
  | n + 1 => FloatOps.addf (colSum H s col n) (rowAt H (2048 * s.val + n) col)

/-- Column `p` of the half of the columns that tile `i` sums. -/
def colOf (i : grid0.Coords) (p : Fin 256) : Fin 512 :=
  ⟨256 * (i 0).val + p.val, by have : (i 0).val < 2 := (i 0).isLt; omega⟩

/-- Lane `x` of column group `j`. -/
def lane (j : Fin 16) (x : S16.Idx) : Fin 256 :=
  ⟨16 * j.val + (x 0).val, by have : (x 0).val < 16 := (x 0).isLt; omega⟩

/-- The tile's accumulators after `n` rows. -/
def accs (i : grid0.Coords) (H : S32768x512.Idx → F .f32) (n : ℕ) (j : Fin 16) : FVec F S16 .f32 :=
  fun x => colSum H (i 1) (colOf i (lane j x)) n

/-- What a block holds: its 128 rows in the tile's columns. -/
def Holds (i : grid0.Coords) (H : S32768x512.Idx → F .f32) (b : Fin 2) (r : Fin 16) (f : S2x128x256.Idx → F .f32) : Prop :=
  ∀ x : S128x256.Idx, (half bV b).view.read (Elt F) f x = rowAt H (2048 * (i 1).val + (128 * r.val + (x 0).val)) (colOf i (x 1))

/-- Where a block's source starts. -/
theorem srcOff_eq (i : grid0.Coords) (r : Fin 16) :
    k0_off1 i (BitVec.ofNat 32 (128 * r.val)) = ![2048 * (i 1).val + 128 * r.val, 256 * (i 0).val] := by
  have h : ∀ (c : Fin 2) (s r : Fin 16), k0_off1 (fun | 0 => c | 1 => s | ⟨_ + 2, h⟩ => absurd h (Nat.not_lt.2 (Nat.le_add_left _ _))) (BitVec.ofNat 32 (128 * r.val))
      = ![2048 * s.val + 128 * r.val, 256 * c.val] := by decide +kernel
  have e := h (i 0) (i 1) r
  convert e using 2
  funext a; fin_cases a <;> rfl

/-- A block's source read: rows of the tile's graph, in its columns. -/
theorem read_srcBlk (i : grid0.Coords) (H : S32768x512.Idx → F .f32) (r : Fin 16) (x : S128x256.Idx) :
    (srcBlk i hV r).view.read (Elt F) H x = rowAt H (2048 * (i 1).val + (128 * r.val + (x 0).val)) (colOf i (x 1)) := by
  have h0 : (x 0).val < 128 := (x 0).isLt
  have h1 : (i 1).val < 16 := (i 1).isLt
  have hr := r.isLt
  refine congrArg H ?_
  funext a
  refine Fin.ext ?_
  have e := congrFun (srcOff_eq i r) a
  fin_cases a
  · show k0_off1 i (BitVec.ofNat 32 (128 * r.val)) 0 + 1 * (x 0).val = (2048 * (i 1).val + (128 * r.val + (x 0).val)) % 32768
    simp only [Fin.zero_eta, Fin.isValue, Matrix.cons_val_zero] at e
    rw [e]; omega
  · show k0_off1 i (BitVec.ofNat 32 (128 * r.val)) 1 + 1 * (x 1).val = 256 * (i 0).val + (x 1).val
    simp only [Fin.mk_one, Fin.isValue, Matrix.cons_val_one] at e
    rw [e]; simp

/-- What trip `k` reads at a column group is row `k` of the block the half holds. -/
theorem read_row (i : grid0.Coords) (H : S32768x512.Idx → F .f32) (b : Fin 2) (r : Fin 16) (f : S2x128x256.Idx → F .f32) (hf : Holds i H b r f)
    (k : Fin k0_t1_loop.trips) (j : Fin 16) (x : S16.Idx) :
    shapeCast S16 ((bV).view.readAt (Elt F) (Rect.unit (s := S2x128x256) (readOff b k j) S1x1x16.size (readOff_inb b k j)).toLoadRect f) shapeCasts_S1x1x16_S16 x
      = rowAt H (2048 * (i 1).val + (128 * r.val + k.val)) (colOf i (lane j x)) := by
  have hk : k.val < 128 := k.isLt
  have e := hf (fun | 0 => ⟨k.val, hk⟩ | 1 => lane j x)
  refine Eq.trans ?_ e
  have e1 : (Shape.reshapeEquiv shapeCasts_S1x1x16_S16 x : S1x1x16.Idx) = Fin.cons ⟨0, Nat.one_pos⟩ (Fin.cons ⟨0, Nat.one_pos⟩ x) := by
    have h1 : (⟨1, ![16]⟩ : Shape).numel = (⟨2, ![1, 16]⟩ : Shape).numel := by decide
    have h2 : (⟨2, ![1, 16]⟩ : Shape).numel = (⟨3, ![1, 1, 16]⟩ : Shape).numel := by decide
    exact (Shape.reshapeEquiv_reshapeEquiv h2 h1 x).symm.trans
      ((congrArg _ (Shape.reshapeEquiv_cons_one h1 x)).trans (Shape.reshapeEquiv_cons_one h2 _))
  have e2 : (Shape.reshapeEquiv squeezes_S1x128x256_S128x256.numel_eq (fun | 0 => ⟨k.val, hk⟩ | 1 => lane j x : S128x256.Idx) : S1x128x256.Idx)
      = Fin.cons ⟨0, Nat.one_pos⟩ (fun | 0 => ⟨k.val, hk⟩ | 1 => lane j x : S128x256.Idx) :=
    Shape.reshapeEquiv_cons_one _ _
  show f ((Rect.unit (s := S2x128x256) (readOff b k j) S1x1x16.size (readOff_inb b k j)).emb (Shape.reshapeEquiv shapeCasts_S1x1x16_S16 x))
    = f ((Rect.unit (s := S2x128x256) ![b.val, 0, 0] S1x128x256.size (half_inb b)).emb (Shape.reshapeEquiv squeezes_S1x128x256_S128x256.numel_eq _))
  refine (congrArg (fun y => f ((Rect.unit (s := S2x128x256) (readOff b k j) S1x1x16.size (readOff_inb b k j)).emb y)) e1).trans
    (Eq.trans (congrArg f ?_)
      (congrArg (fun y => f ((Rect.unit (s := S2x128x256) ![b.val, 0, 0] S1x128x256.size (half_inb b)).emb y)) e2).symm)
  funext a
  refine Fin.ext ?_
  have e := congrFun (readOff_eq b k j) a
  fin_cases a
  · show readOff b k j 0 + 1 * 0 = b.val + 1 * 0
    rw [show readOff b k j 0 = b.val from rfl]
  · show readOff b k j 1 + 1 * 0 = 0 + 1 * k.val
    rw [show readOff b k j 1 = k.val from e]; omega
  · show readOff b k j 2 + 1 * (x 0).val = 0 + 1 * (16 * j.val + (x 0).val)
    rw [show readOff b k j 2 = 16 * j.val from rfl]; omega

/-- A trip's addition to an accumulator. -/
theorem accs_step (i : grid0.Coords) (H : S32768x512.Idx → F .f32) (b : Fin 2) (r : Fin 16) (f : S2x128x256.Idx → F .f32) (hf : Holds i H b r f)
    (k : Fin k0_t1_loop.trips) (j : Fin 16) :
    addf (accs i H (128 * r.val + k.val) j)
        (shapeCast S16 ((bV).view.readAt (Elt F) (Rect.unit (s := S2x128x256) (readOff b k j) S1x1x16.size (readOff_inb b k j)).toLoadRect f) shapeCasts_S1x1x16_S16)
      = accs i H (128 * r.val + (k.val + 1)) j :=
  funext fun x => congrArg (FloatOps.addf (colSum H (i 1) (colOf i (lane j x)) (128 * r.val + k.val))) (read_row i H b r f hf k j x)

/-! ## The steps' rules -/

section Rules

variable (d : Dev nD) (i : grid0.Coords)

/-- The tile's thread. -/
abbrev thr : Thread nD τ := V d (cV i) (jV i)

/-- A program of the tile run to a postcondition. -/
abbrev runs {α : Type} (p : TProg F i α) (Q : α → sProp 𝕄) : sProp 𝕄 :=
  wp frame (wpE (defs₀ (F := F)) 𝒱₀ (thr d i) none) Set.univ p Q

/-- Half `b` of the scratch, owned, its contents `f`. -/
abbrev halfPts (b : Fin 2) (f : S2x128x256.Idx → F .f32) : sProp 𝕄 :=
  (half bV b).view.loc (thr d i) ↦[(half bV b).view.set]{fullShare} f

/-- What a trip reads of a half is the half's. -/
theorem read_sub (b : Fin 2) (k : Fin k0_t1_loop.trips) (j : Fin 16) :
    (bV).view.setOn (Rect.unit (s := S2x128x256) (readOff b k j) S1x1x16.size (readOff_inb b k j)).toLoadRect.set ⊆ (half bV b).view.set := by
  have hk : k.val < 128 := k.isLt
  have e := readOff_eq b k j
  rw [show (half bV b).view.set = (bV).view.setOn (Rect.unit (s := S2x128x256) ![b.val, 0, 0] S1x128x256.size (half_inb b)).toLoadRect.set by
    rw [show (half bV b).view.set = ((bV).view.slice (Rect.unit (s := S2x128x256) ![b.val, 0, 0] S1x128x256.size (half_inb b))).set from View.set_reshape _ _,
      View.set_slice]; rfl]
  refine Finset.map_subset_map.2 fun y hy => ?_
  rw [show (Rect.unit (s := S2x128x256) (readOff b k j) S1x1x16.size (readOff_inb b k j)).toLoadRect.set
    = (Rect.unit (s := S2x128x256) (readOff b k j) S1x1x16.size (readOff_inb b k j)).set from rfl, Rect.mem_set_unit] at hy
  rw [show (Rect.unit (s := S2x128x256) ![b.val, 0, 0] S1x128x256.size (half_inb b)).toLoadRect.set
    = (Rect.unit (s := S2x128x256) ![b.val, 0, 0] S1x128x256.size (half_inb b)).set from rfl, Rect.mem_set_unit]
  intro a
  have ha := hy a
  rw [e] at ha
  have hy1 : (y 1).val < 128 := (y 1).isLt
  have hy2 : (y 2).val < 256 := (y 2).isLt
  fin_cases a
  · exact ha
  · exact ⟨Nat.zero_le _, by show (y 1).val < 0 + 128; omega⟩
  · exact ⟨Nat.zero_le _, by show (y 2).val < 0 + 256; omega⟩

theorem wp_addRead {α : Type} (b : Fin 2) (r : Fin 16) (f : S2x128x256.Idx → F .f32) (H : S32768x512.Idx → F .f32) (hf : Holds i H b r f)
    (k : Fin k0_t1_loop.trips) (j : Fin 16) {cont : FVec F S16 .f32 → TProg F i α} {Q : α → sProp 𝕄} :
    halfPts d i b f ⊢ iprop((halfPts d i b f -∗ runs d i (cont (accs i H (128 * r.val + (k.val + 1)) j)) Q)
      -∗ runs d i (addRead i bV b k j (accs i H (128 * r.val + k.val) j) cont) Q) := by
  rw [← accs_step i H b r f hf k j]
  unfold addRead
  iintro Hb HQ
  iapply (wp_load 𝒱₀ (thr d i) none Set.univ (m := bV) (read_sub b k j)) $$ Hb
  iexact HQ

/-- A trip: every accumulator one row further. -/
theorem wp_trip (b : Fin 2) (r : Fin 16) (f : S2x128x256.Idx → F .f32) (H : S32768x512.Idx → F .f32) (hf : Holds i H b r f)
    (k : Fin k0_t1_loop.trips) {Q : Accs F → sProp 𝕄} :
    halfPts d i b f ⊢ iprop((halfPts d i b f -∗ Q (tup (accs i H (128 * r.val + (k.val + 1)))))
      -∗ runs d i (trip i bV b k (tup (accs i H (128 * r.val + k.val)))) Q) := by
  iintro Hb HQ
  simp only [trip, tup]
  iterate 16
    iapply (wp_addRead d i b r f H hf k _) $$ Hb
    iintro Hb
  simp only [wp_ret]
  imodintro
  iapply HQ $$ Hb

/-- A half that holds block `r`. -/
def holding (H : S32768x512.Idx → F .f32) (b : Fin 2) (r : Fin 16) : sProp 𝕄 :=
  iprop(∃ f, ⌜Holds i H b r f⌝ ∗ halfPts d i b f)

/-- The loop over a half that holds block `r`: the accumulators go from the rows before the block to the rows through it. -/
theorem wp_addRows {α : Type} (H : S32768x512.Idx → F .f32) (b : Fin 2) (r : Fin 16) {acc : Accs F} (hacc : acc = tup (accs i H (128 * r.val)))
    {cont : Accs F → TProg F i α} {Q : α → sProp 𝕄} :
    holding d i H b r ⊢ iprop((holding d i H b r -∗ runs d i (cont (tup (accs i H (128 * (r.val + 1))))) Q)
      -∗ runs d i (addRows i bV b acc cont) Q) := by
  unfold addRows holding
  iintro ⟨%f, %hf, Hb⟩ HQ
  iapply (Scf.wp_for_bind frame (wpE (defs₀ (F := F)) 𝒱₀ (thr d i) none) Set.univ _ _ _ k0_t1_ok acc (trip i bV b)
    (fun k a => iprop(⌜a = tup (accs i H (128 * r.val + k))⌝ ∗ halfPts d i b f)) (by
      intro k a
      iintro ⟨%ha, Hb⟩
      subst ha
      iapply (wp_trip d i b r f H hf k) $$ Hb
      iintro Hb
      isplitr; · ipureintro; rfl
      iexact Hb)) $$ [Hb]
  · isplitr; · ipureintro; rw [hacc, Nat.add_zero]
    iexact Hb
  iintro %a ⟨%ha, Hb⟩
  have e : a = tup (accs i H (128 * (r.val + 1))) := ha
  subst e
  iapply HQ
  iexists f
  isplitr; · ipureintro; exact hf
  iexact Hb

/-- The array of rows, where this tile reads it. -/
abbrev rowsPts (q : PosShare TreeShare) (H : S32768x512.Idx → F .f32) : sProp 𝕄 :=
  (hV).view.loc (thr d i) ↦{q} H

/-- The elements of the array that are not block `r`'s. -/
abbrev restPts (q : PosShare TreeShare) (H : S32768x512.Idx → F .f32) (r : Fin 16) : sProp 𝕄 :=
  (hV).view.loc (thr d i) ↦[Finset.univ \ (srcBlk i hV r).view.set]{q} H

/-- Block `r`, where a copy reads it. -/
abbrev blkPts (q : PosShare TreeShare) (H : S32768x512.Idx → F .f32) (r : Fin 16) : sProp 𝕄 :=
  (srcBlk i hV r).view.loc (thr d i) ↦[(srcBlk i hV r).view.set]{q} H

/-- A block is carved out of a share of the array, and put back. -/
theorem carve (q : PosShare TreeShare) (H : S32768x512.Idx → F .f32) (r : Fin 16) :
    rowsPts d i q H ⊣⊢ iprop(blkPts d i q H r ∗ restPts d i q H r) :=
  pointsTo_split_subset (Finset.subset_univ _)

/-- A half no copy is in flight to, with its cell at zero and its share of the array of rows. -/
def idle (sm : DmaSems sig S_) (q : PosShare TreeShare) (H : S32768x512.Idx → F .f32) (b : Fin 2) : sProp 𝕄 :=
  iprop((∃ f, halfPts d i b f) ∗ semVal (thr d i, .dma sm.sem) 0 ∗ rowsPts d i q H)

/-- The same, holding block `r`. -/
def landed (sm : DmaSems sig S_) (q : PosShare TreeShare) (H : S32768x512.Idx → F .f32) (b : Fin 2) (r : Fin 16) : sProp 𝕄 :=
  iprop(holding d i H b r ∗ semVal (thr d i, .dma sm.sem) 0 ∗ rowsPts d i q H)

/-- The units a copy into a half counts. -/
abbrev units (b : Fin 2) : ℕ := (half bV b).view.dmaCredit

/-- Block `r` in flight to half `b`. -/
def inFlight (sm : DmaSems sig S_) (q : PosShare TreeShare) (H : S32768x512.Idx → F .f32) (b : Fin 2) (r : Fin 16) : sProp 𝕄 :=
  iprop(∃ f, ⌜Holds i H b r f⌝
    ∗ Transfers.Flight countersEmb (thr d i) (.dma sm.sem) (default : HIx 1) (units b) iprop(halfPts d i b f ∗ blkPts d i q H r)
    ∗ restPts d i q H r)

theorem idle_of_landed (sm : DmaSems sig S_) (q : PosShare TreeShare) (H : S32768x512.Idx → F .f32) (b : Fin 2) (r : Fin 16) :
    landed d i sm q H b r ⊢ idle d i sm q H b := by
  unfold landed holding idle
  iintro ⟨⟨%f, -, Hb⟩, Hs, Hr⟩
  isplitl [Hb]; · iexists f; iexact Hb
  isplitl [Hs]; · iexact Hs
  iexact Hr

/-- A copy's landing leaves the half holding the block. -/
theorem holds_written (i : grid0.Coords) (H : S32768x512.Idx → F .f32) (b : Fin 2) (r : Fin 16) (f : S2x128x256.Idx → F .f32) :
    Holds i H b r ((half bV b).view.write (Elt F) f (ReadAs.same.apply ((srcBlk i hV r).view.read (Elt F) H)) Finset.univ) := by
  intro x
  rw [View.read_write_univ]
  exact read_srcBlk i H r x

theorem wp_issue {α : Type} (sm : DmaSems sig S_) (q : PosShare TreeShare) (H : S32768x512.Idx → F .f32) (b : Fin 2) (r : Fin 16)
    {cont : TProg F i α} {Q : α → sProp 𝕄} :
    idle d i sm q H b ⊢ iprop((inFlight d i sm q H b r -∗ runs d i cont Q) -∗ runs d i (issue i hV bV sm b r cont) Q) := by
  unfold idle inFlight issue
  iintro ⟨⟨%f, Hb⟩, Hs, Hr⟩ HQ
  ihave Hr' := (carve d i q H r).1 $$ Hr
  icases Hr' with ⟨Hblk, Hrest⟩
  iapply (Transfers.wp_dmaLocal countersEmb 𝒱₀ (thr d i) none (default : HIx 1) (units b) rfl (View.dmaCredit_pos _ (by decide))
    (Finset.Subset.refl _)) $$ [Hblk Hb Hs]
  · isplitl [Hblk]; · iexact Hblk
    isplitl [Hb]; · iexact Hb
    iexact Hs
  iintro Hfl
  iapply HQ
  iexists ((half bV b).view.write (Elt F) f (ReadAs.same.apply ((srcBlk i hV r).view.read (Elt F) H)) Finset.univ)
  isplitr; · ipureintro; exact holds_written i H b r f
  isplitl [Hfl]; · iexact Hfl
  iexact Hrest

/-- What the thread owes, some of its own waits recorded, with the evidence that it may wait. -/
def debt (O : CellTallies nD τ sig (HIx 1)) (W : Waits sig (HIx 1)) : sProp 𝕄 :=
  iprop(Transfers.MayWaits (thr d i) (default : HIx 1) O ∗ ∃ W', ⌜∀ p ∈ W', p ∈ W ∨ p.2 = none⌝ ∗ owes (thr d i) O W')

/-- Waiting for a copy: what it delivers comes back, the cell at zero. -/
theorem wp_await {α : Type} (O : CellTallies nD τ sig (HIx 1)) (W : Waits sig (HIx 1)) (sm : DmaSems sig S_)
    {sp sp' : Space} {s s' : Shape} {e e' : EltTy} {srcw : Memref sig .scVector sp' s' e'} {dstw : Memref sig .scVector sp s e}
    {hsrc : srcw.view.WordExact} {hdst : dstw.view.WordExact} {D : sProp 𝕄} {cont : TProg F i α} {Q : α → sProp 𝕄} :
    Transfers.Flight countersEmb (thr d i) (.dma sm.sem) (default : HIx 1) dstw.view.dmaCredit D
      ⊢ iprop(debt d i O W -∗ (D -∗ semVal (thr d i, .dma sm.sem) 0 -∗ debt d i O W -∗ runs d i cont Q)
        -∗ runs d i (.op (.waitDma2 sm.sem srcw dstw hsrc hdst) fun _ => cont) Q) := by
  unfold debt
  iintro Hfl ⟨#Hmw, ⟨%W', %hW, HO⟩⟩ HQ
  iapply (Transfers.wp_waitLocalO countersEmb 𝒱₀ (thr d i) none (default : HIx 1) (rfl : dstw.view.dmaCredit = _)) $$ [Hfl HO]
  · isplitl [Hfl]; · iexact Hfl
    isplitl [HO]; · iexact HO
    iapply (Transfers.MayWaits.elim (SemLoc.dma sm.sem)) $$ Hmw
  iintro ⟨HD, Hs, HO⟩
  iapply HQ $$ HD Hs
  isplitr; · iexact Hmw
  iexists _
  isplitr
  rotate_left
  · iexact HO
  · ipureintro
    intro p hp
    rcases Finset.mem_insert.1 hp with rfl | hp
    · exact Or.inr rfl
    · exact hW p hp

theorem wp_land {α : Type} (O : CellTallies nD τ sig (HIx 1)) (W : Waits sig (HIx 1)) (sm : DmaSems sig S_) (q : PosShare TreeShare)
    (H : S32768x512.Idx → F .f32) (b : Fin 2) (r : Fin 16) {cont : TProg F i α} {Q : α → sProp 𝕄} :
    inFlight d i sm q H b r
      ⊢ iprop(debt d i O W -∗ (landed d i sm q H b r -∗ debt d i O W -∗ runs d i cont Q) -∗ runs d i (land i hV bV sm b r cont) Q) := by
  unfold landed holding inFlight land
  iintro ⟨%f, %hf, Hfl, Hrest⟩ HO HQ
  iapply (wp_await d i O W sm) $$ Hfl HO
  iintro ⟨Hb, Hblk⟩ Hs HO
  iapply HQ $$ [Hb Hblk Hs Hrest] HO
  isplitl [Hb]
  · iexists f
    isplitr; · ipureintro; exact hf
    iexact Hb
  isplitl [Hs]; · iexact Hs
  iapply (carve d i q H r).2
  isplitl [Hblk] <;> iassumption

/-- The loop over a landed half leaves it free for the next copy. -/
theorem wp_addLanded {α : Type} (sm : DmaSems sig S_) (q : PosShare TreeShare)
    (H : S32768x512.Idx → F .f32) (b : Fin 2) (r : Fin 16) {acc : Accs F} (hacc : acc = tup (accs i H (128 * r.val)))
    {cont : Accs F → TProg F i α} {Q : α → sProp 𝕄} :
    landed d i sm q H b r ⊢ iprop((idle d i sm q H b -∗ runs d i (cont (tup (accs i H (128 * (r.val + 1))))) Q)
        -∗ runs d i (addRows i bV b acc cont) Q) := by
  unfold landed
  iintro ⟨Hb, Hs, Hr⟩ HQ
  iapply (wp_addRows d i H b r hacc) $$ Hb
  iintro Hb
  iapply HQ
  iapply (idle_of_landed d i sm q H b r)
  unfold landed
  isplitl [Hb]; · iexact Hb
  isplitl [Hs] <;> iassumption

theorem wp_collect {α : Type} (O : CellTallies nD τ sig (HIx 1)) (W : Waits sig (HIx 1)) (sm : DmaSems sig S_) (q : PosShare TreeShare)
    (H : S32768x512.Idx → F .f32) (b : Fin 2) (r : Fin 16) {acc : Accs F} (hacc : acc = tup (accs i H (128 * r.val)))
    {cont : Accs F → TProg F i α} {Q : α → sProp 𝕄} :
    inFlight d i sm q H b r
      ⊢ iprop(debt d i O W -∗ (idle d i sm q H b -∗ debt d i O W -∗ runs d i (cont (tup (accs i H (128 * (r.val + 1))))) Q)
        -∗ runs d i (collect i hV bV sm b r acc cont) Q) := by
  unfold collect
  iintro Hf HO HQ
  iapply (wp_land d i O W sm q H b r) $$ Hf HO
  iintro Hl HO
  iapply (wp_addLanded d i sm q H b r hacc) $$ Hl
  iintro Hi
  iapply HQ $$ Hi HO

/-! ## The sums, and the tile's part of the result -/

/-- The sums' scratch, its first `n` column groups written. -/
def summed (H : S32768x512.Idx → F .f32) (n : ℕ) : sProp 𝕄 :=
  iprop(∃ f : S256.Idx → F .f32, ⌜∀ p : S256.Idx, (p 0).val < 16 * n → f p = colSum H (i 1) (colOf i (p 0)) 2048⌝ ∗ (aV).view.loc (thr d i) ↦{fullShare} f)

theorem wp_peek {α : Type} (H : S32768x512.Idx → F .f32) (n : ℕ) (j : Fin 16) {cont : Vec F S16 .f32 → TProg F i α} {Q : α → sProp 𝕄} :
    summed d i H n ⊢ iprop((∀ v, summed d i H n -∗ runs d i (cont v) Q) -∗ runs d i (peek i aV j cont) Q) := by
  unfold summed peek
  iintro ⟨%f, %hf, Hb⟩ HQ
  iapply (wp_load 𝒱₀ (thr d i) none Set.univ (m := aV) (S := Finset.univ) (Finset.subset_univ _)) $$ Hb
  iintro Hb
  iapply HQ
  iexists f
  isplitr; · ipureintro; exact hf
  iexact Hb

/-- The lane at a position. -/
def at1 (n : ℕ) (h : n < 16) : S16.Idx := fun | 0 => ⟨n, h⟩

/-- Storing the accumulator of a column group writes that group's sums and leaves the others. -/
theorem put_value (H : S32768x512.Idx → F .f32) (j : Fin 16) (f : S256.Idx → F .f32)
    (hf : ∀ p : S256.Idx, (p 0).val < 16 * j.val → f p = colSum H (i 1) (colOf i (p 0)) 2048) (p : S256.Idx) (hp : (p 0).val < 16 * (j.val + 1)) :
    ((aV).access (Rect.unit (s := S256) ![16 * j.val] S16.size (sumOff_inb j))).write (Elt F) f (shapeCast S16 (accs i H 2048 j) shapeCasts_S16_S16) Finset.univ p
      = colSum H (i 1) (colOf i (p 0)) 2048 := by
  by_cases h : (p 0).val < 16 * j.val
  · rw [View.write_of_not_mem]
    · exact hf p h
    · intro hm
      have hm' : p ∈ (Rect.unit (s := S256) ![16 * j.val] S16.size (sumOff_inb j)).set := by
        rw [View.setOn_univ, View.set_slice] at hm
        obtain ⟨y, hy, e⟩ := Finset.mem_map.1 hm
        exact e ▸ hy
      have := (Rect.mem_set_unit.1 hm' 0).1
      exact absurd this (Nat.not_le.2 h)
  · have hx : (p 0).val - 16 * j.val < 16 := by omega
    have e : ((aV).access (Rect.unit (s := S256) ![16 * j.val] S16.size (sumOff_inb j))).emb (at1 ((p 0).val - 16 * j.val) hx) = p := by
      funext a
      refine Fin.ext ?_
      fin_cases a
      show 16 * j.val + 1 * ((p 0).val - 16 * j.val) = (p 0).val
      omega
    have el : lane j (at1 ((p 0).val - 16 * j.val) hx) = p 0 := Fin.ext (by show 16 * j.val + ((p 0).val - 16 * j.val) = (p 0).val; omega)
    have hw := View.write_emb_of_mem (v := (aV).access (Rect.unit (s := S256) ![16 * j.val] S16.size (sumOff_inb j))) (Val := Elt F) f
      (shapeCast S16 (accs i H 2048 j) shapeCasts_S16_S16) (Finset.mem_univ (at1 ((p 0).val - 16 * j.val) hx))
    rw [e] at hw
    refine hw.trans ?_
    show accs i H 2048 j (Shape.reshapeEquiv shapeCasts_S16_S16 _) = _
    rw [Shape.reshapeEquiv_self]
    show colSum H (i 1) (colOf i (lane j _)) 2048 = _
    rw [el]

theorem wp_put {α : Type} (H : S32768x512.Idx → F .f32) (n n' : ℕ) (j : Fin 16) (hn : n = j.val) (hn' : n' = j.val + 1) {v : FVec F S16 .f32} (hv : v = accs i H 2048 j)
    {cont : TProg F i α} {Q : α → sProp 𝕄} :
    summed d i H n ⊢ iprop((summed d i H n' -∗ runs d i cont Q) -∗ runs d i (put i aV j v cont) Q) := by
  subst hn hn'
  unfold summed put
  iintro ⟨%f, %hf, Hb⟩ HQ
  iapply (wp_store 𝒱₀ (thr d i) none Set.univ (m := aV) (r := Rect.unit (s := S256) ![16 * j.val] S16.size (sumOff_inb j)) (S := Finset.univ) (Finset.subset_univ _)) $$ Hb
  iintro Hb
  iapply HQ
  iexists (((aV).access (Rect.unit (s := S256) ![16 * j.val] S16.size (sumOff_inb j))).write (Elt F) f (shapeCast S16 v shapeCasts_S16_S16) Finset.univ)
  isplitr
  · ipureintro; subst hv; exact put_value i H j f hf
  iexact Hb

/-- The array of graph sums. -/
def outArr (H : S32768x512.Idx → F .f32) : S16x512.Idx → F .f32 := fun y => colSum H (y 0) (y 1) 2048

/-- The elements of the result tile `i` writes. -/
abbrev outSet (i : grid0.Coords) : Finset S16x512.Idx := (outRow i oV).view.set

/-- The tile's part of the result. -/
abbrev outPts (f : S16x512.Idx → F .f32) : sProp 𝕄 := (outRow i oV).view.loc (thr d i) ↦[outSet i]{fullShare} f

/-- Where the tile's part of the result starts. -/
theorem outOff_eq (i : grid0.Coords) : k0_off258 i = ![(i 1).val, 256 * (i 0).val] := by
  have h : ∀ (c : Fin 2) (s : Fin 16), k0_off258 (fun | 0 => c | 1 => s | ⟨_ + 2, h⟩ => absurd h (Nat.not_lt.2 (Nat.le_add_left _ _))) = ![s.val, 256 * c.val] := by
    decide +kernel
  have e := h (i 0) (i 1)
  convert e using 2
  funext a; fin_cases a <;> rfl

/-- Element `p` of the tile's part is column `p` of its half of row `i 1`. -/
theorem outRow_emb (i : grid0.Coords) (p : S256.Idx) : (outRow i oV).view.emb p = fun | 0 => i 1 | 1 => colOf i (p 0) := by
  have e2 : (Shape.reshapeEquiv squeezes_S1x256_S256.numel_eq p : S1x256.Idx) = Fin.cons ⟨0, Nat.one_pos⟩ p := Shape.reshapeEquiv_cons_one _ _
  show (Rect.unit (s := S16x512) (k0_off258 i) S1x256.size (k0_off258_inb i)).emb (Shape.reshapeEquiv squeezes_S1x256_S256.numel_eq p) = _
  refine (congrArg (Rect.unit (s := S16x512) (k0_off258 i) S1x256.size (k0_off258_inb i)).emb e2).trans ?_
  funext a
  refine Fin.ext ?_
  have e := congrFun (outOff_eq i) a
  fin_cases a
  · show k0_off258 i 0 + 1 * 0 = (i 1).val
    rw [show k0_off258 i 0 = (i 1).val from e]; omega
  · show k0_off258 i 1 + 1 * (p 0).val = 256 * (i 0).val + (p 0).val
    rw [show k0_off258 i 1 = 256 * (i 0).val from e]; omega

/-- The copy out leaves the graph's sums in the tile's part of the result. -/
theorem out_written (H : S32768x512.Idx → F .f32) (f : S256.Idx → F .f32) (fo : S16x512.Idx → F .f32)
    (hf : ∀ p : S256.Idx, (p 0).val < 16 * 16 → f p = colSum H (i 1) (colOf i (p 0)) 2048) :
    (outPts d i ((outRow i oV).view.write (Elt F) fo (ReadAs.same.apply ((aV).view.read (Elt F) f)) Finset.univ) : sProp 𝕄) = outPts d i (outArr H) := by
  refine pointsTo_congr fun y hy => ?_
  obtain ⟨p, -, rfl⟩ := Finset.mem_map.1 hy
  refine (View.write_emb_of_mem _ _ (Finset.mem_univ p)).trans ?_
  refine (hf p (p 0).isLt).trans ?_
  rw [outRow_emb]; rfl

theorem wp_flush (O : CellTallies nD τ sig (HIx 1)) (W : Waits sig (HIx 1)) (so : DmaSems sig S_) (H : S32768x512.Idx → F .f32) (fo : S16x512.Idx → F .f32)
    {Q : PUnit → sProp 𝕄} :
    summed d i H 16
      ⊢ iprop(outPts d i fo -∗ semVal (thr d i, .dma so.sem) 0 -∗ debt d i O W
        -∗ ((∃ f : S256.Idx → F .f32, (aV).view.loc (thr d i) ↦{fullShare} f) -∗ outPts d i (outArr H) -∗ semVal (thr d i, .dma so.sem) 0 -∗ debt d i O W -∗ Q ⟨⟩)
        -∗ runs d i (flush i oV aV (Memref.isWhole_whole _) so) Q) := by
  unfold summed flush
  have hs : (aV).view.set = Finset.univ := View.set_whole _
  iintro ⟨%f, %hf, Ha⟩ Ho Hs HO HQ
  ihave Ha' := (Entails.of_eq (show ((aV).view.loc (thr d i) ↦{fullShare} f : sProp 𝕄) = (aV).view.loc (thr d i) ↦[(aV).view.set]{fullShare} f by rw [hs])) $$ Ha
  iapply (Transfers.wp_dmaLocal countersEmb 𝒱₀ (thr d i) none (default : HIx 1) ((outRow i oV).view.dmaCredit) rfl (View.dmaCredit_pos _ (by decide))
    (Finset.Subset.refl _)) $$ [Ha' Ho Hs]
  · isplitl [Ha']; · iexact Ha'
    isplitl [Ho]; · iexact Ho
    iexact Hs
  iintro Hfl
  iapply (wp_await d i O W so) $$ Hfl HO
  iintro ⟨Ho, Ha⟩ Hs HO
  simp only [wp_ret]
  imodintro
  iapply HQ $$ [Ha] [Ho] Hs HO
  · iexists f
    iapply (Entails.of_eq (show ((aV).view.loc (thr d i) ↦[(aV).view.set]{fullShare} f : sProp 𝕄) = (aV).view.loc (thr d i) ↦{fullShare} f by rw [hs])) $$ Ha
  · iapply (Entails.of_eq (out_written d i H f fo hf)) $$ Ho

/-- The last three groups of sums are stored and the sums copied out. -/
theorem wp_finish (O : CellTallies nD τ sig (HIx 1)) (W : Waits sig (HIx 1)) (so : DmaSems sig S_) (H : S32768x512.Idx → F .f32) (fo : S16x512.Idx → F .f32)
    {v13 v14 v15 : FVec F S16 .f32} (h13 : v13 = accs i H 2048 13) (h14 : v14 = accs i H 2048 14) (h15 : v15 = accs i H 2048 15)
    {Q : PUnit → sProp 𝕄} :
    summed d i H 13
      ⊢ iprop(outPts d i fo -∗ semVal (thr d i, .dma so.sem) 0 -∗ debt d i O W
        -∗ ((∃ f : S256.Idx → F .f32, (aV).view.loc (thr d i) ↦{fullShare} f) -∗ outPts d i (outArr H) -∗ semVal (thr d i, .dma so.sem) 0 -∗ debt d i O W -∗ Q ⟨⟩)
        -∗ runs d i (finish i oV aV (Memref.isWhole_whole _) so v13 v14 v15) Q) := by
  iintro Ha Ho Hs HO HQ
  unfold finish
  iapply (wp_put d i H 13 14 13 rfl rfl h13) $$ Ha
  iintro Ha
  iapply (wp_peek d i H 14 14) $$ Ha
  iintro %_ Ha
  iapply (wp_put d i H 14 15 14 rfl rfl h14) $$ Ha
  iintro Ha
  iapply (wp_peek d i H 15 15) $$ Ha
  iintro %_ Ha
  iapply (wp_put d i H 15 16 15 rfl rfl h15) $$ Ha
  iintro Ha
  iapply (wp_flush d i O W so H fo) $$ Ha Ho Hs HO HQ

set_option maxRecDepth 65536 in
/-- The first window computes a number the program does not use again. -/
theorem part17_ret (arg2 : Memref sig .scVector .hbm S32768x512 .f32) (harg2 : arg2.IsWhole) (arg3 : Memref sig .scVector .hbm S16x512 .f32)
    (harg3 : arg3.IsWhole) (arg4 : Memref sig .scVector .vmem S2x128x256 .f32) (harg4 : arg4.IsWhole) (arg5 : Memref sig .scVector .vmem S256 .f32)
    (harg5 : arg5.IsWhole) (s0 s1 so : DmaSems sig S_) :
    ∃ w, k0_part17 (F := F) i arg2 harg2 arg3 harg3 arg4 harg4 arg5 harg5 s0 s1 so = Prog.ret w := ⟨_, rfl⟩

set_option maxHeartbeats 400000 in
/-- The tile's body: sixteen blocks through the two halves, the sums stored and copied out. -/
theorem wp_body (O : CellTallies nD τ sig (HIx 1)) (W : Waits sig (HIx 1)) (s0 s1 so : DmaSems sig S_) (q0 q1 : PosShare TreeShare)
    (H : S32768x512.Idx → F .f32) (fo : S16x512.Idx → F .f32) :
    iprop(idle d i s0 q0 H 0 ∗ idle d i s1 q1 H 1 ∗ summed d i H 0 ∗ outPts d i fo ∗ semVal (thr d i, .dma so.sem) 0 ∗ debt d i O W)
      ⊢ runs d i (cc0_agg i hV (Memref.isWhole_whole _) oV (Memref.isWhole_whole _) bV (Memref.isWhole_whole _) aV (Memref.isWhole_whole _) s0 s1 so) fun _ =>
        iprop(idle d i s0 q0 H 0 ∗ idle d i s1 q1 H 1 ∗ (∃ f : S256.Idx → F .f32, (aV).view.loc (thr d i) ↦{fullShare} f)
          ∗ outPts d i (outArr H) ∗ semVal (thr d i, .dma so.sem) 0 ∗ debt d i O W) := by
  iintro ⟨H0, H1, Ha, Ho, Hs, HO⟩
  rw [cc0_agg_eq_skeleton]; unfold cc0_agg_skel
  obtain ⟨w, hw⟩ := part17_ret i (F := F) hV (Memref.isWhole_whole _) oV (Memref.isWhole_whole _) bV (Memref.isWhole_whole _) aV (Memref.isWhole_whole _) s0 s1 so
  rw [hw]
  simp only [wp_bind, wp_ret, part18_eq]
  imodintro
  iapply (wp_issue d i s0 q0 H 0 0) $$ H0
  iintro H0
  iapply (wp_issue d i s1 q1 H 1 1) $$ H1
  iintro H1
  simp only [wp_ret, part19_eq]
  imodintro
  iapply (wp_collect d i O W s0 q0 H 0 0 rfl) $$ H0 HO
  iintro H0 HO
  iapply (wp_issue d i s0 q0 H 0 2) $$ H0
  iintro H0
  iapply (wp_collect d i O W s1 q1 H 1 1 rfl) $$ H1 HO
  iintro H1 HO
  iapply (wp_issue d i s1 q1 H 1 3) $$ H1
  iintro H1
  simp only [wp_ret, part20_eq]
  imodintro
  iapply (wp_collect d i O W s0 q0 H 0 2 rfl) $$ H0 HO
  iintro H0 HO
  iapply (wp_issue d i s0 q0 H 0 4) $$ H0
  iintro H0
  iapply (wp_collect d i O W s1 q1 H 1 3 rfl) $$ H1 HO
  iintro H1 HO
  iapply (wp_issue d i s1 q1 H 1 5) $$ H1
  iintro H1
  simp only [wp_ret, part21_eq]
  imodintro
  iapply (wp_collect d i O W s0 q0 H 0 4 rfl) $$ H0 HO
  iintro H0 HO
  iapply (wp_issue d i s0 q0 H 0 6) $$ H0
  iintro H0
  iapply (wp_collect d i O W s1 q1 H 1 5 rfl) $$ H1 HO
  iintro H1 HO
  simp only [wp_ret, part22_eq]
  imodintro
  iapply (wp_issue d i s1 q1 H 1 7) $$ H1
  iintro H1
  iapply (wp_collect d i O W s0 q0 H 0 6 rfl) $$ H0 HO
  iintro H0 HO
  iapply (wp_issue d i s0 q0 H 0 8) $$ H0
  iintro H0
  iapply (wp_collect d i O W s1 q1 H 1 7 rfl) $$ H1 HO
  iintro H1 HO
  simp only [wp_ret, part23_eq]
  imodintro
  iapply (wp_issue d i s1 q1 H 1 9) $$ H1
  iintro H1
  iapply (wp_collect d i O W s0 q0 H 0 8 rfl) $$ H0 HO
  iintro H0 HO
  iapply (wp_issue d i s0 q0 H 0 10) $$ H0
  iintro H0
  iapply (wp_collect d i O W s1 q1 H 1 9 rfl) $$ H1 HO
  iintro H1 HO
  simp only [wp_ret, part24_eq]
  imodintro
  iapply (wp_issue d i s1 q1 H 1 11) $$ H1
  iintro H1
  iapply (wp_collect d i O W s0 q0 H 0 10 rfl) $$ H0 HO
  iintro H0 HO
  iapply (wp_issue d i s0 q0 H 0 12) $$ H0
  iintro H0
  iapply (wp_collect d i O W s1 q1 H 1 11 rfl) $$ H1 HO
  iintro H1 HO
  simp only [wp_ret, part25_eq]
  imodintro
  iapply (wp_issue d i s1 q1 H 1 13) $$ H1
  iintro H1
  iapply (wp_collect d i O W s0 q0 H 0 12 rfl) $$ H0 HO
  iintro H0 HO
  iapply (wp_issue d i s0 q0 H 0 14) $$ H0
  iintro H0
  iapply (wp_land d i O W s1 q1 H 1 13) $$ H1 HO
  iintro H1 HO
  simp only [wp_ret, part26_eq]
  imodintro
  iapply (wp_addLanded d i s1 q1 H 1 13 rfl) $$ H1
  iintro H1
  iapply (wp_issue d i s1 q1 H 1 15) $$ H1
  iintro H1
  iapply (wp_collect d i O W s0 q0 H 0 14 rfl) $$ H0 HO
  iintro H0 HO
  iapply (wp_collect d i O W s1 q1 H 1 15 rfl) $$ H1 HO
  iintro H1 HO
  iapply (wp_peek d i H 0 0) $$ Ha
  iintro %_ Ha
  iapply (wp_put d i H 0 1 0 rfl rfl rfl) $$ Ha
  iintro Ha
  iapply (wp_peek d i H 1 1) $$ Ha
  iintro %_ Ha
  simp only [wp_ret, part27_eq]
  imodintro
  iapply (wp_put d i H 1 2 1 rfl rfl rfl) $$ Ha
  iintro Ha
  iapply (wp_peek d i H 2 2) $$ Ha
  iintro %_ Ha
  iapply (wp_put d i H 2 3 2 rfl rfl rfl) $$ Ha
  iintro Ha
  iapply (wp_peek d i H 3 3) $$ Ha
  iintro %_ Ha
  iapply (wp_put d i H 3 4 3 rfl rfl rfl) $$ Ha
  iintro Ha
  iapply (wp_peek d i H 4 4) $$ Ha
  iintro %_ Ha
  iapply (wp_put d i H 4 5 4 rfl rfl rfl) $$ Ha
  iintro Ha
  iapply (wp_peek d i H 5 5) $$ Ha
  iintro %_ Ha
  iapply (wp_put d i H 5 6 5 rfl rfl rfl) $$ Ha
  iintro Ha
  iapply (wp_peek d i H 6 6) $$ Ha
  iintro %_ Ha
  iapply (wp_put d i H 6 7 6 rfl rfl rfl) $$ Ha
  iintro Ha
  iapply (wp_peek d i H 7 7) $$ Ha
  iintro %_ Ha
  iapply (wp_put d i H 7 8 7 rfl rfl rfl) $$ Ha
  iintro Ha
  iapply (wp_peek d i H 8 8) $$ Ha
  iintro %_ Ha
  iapply (wp_put d i H 8 9 8 rfl rfl rfl) $$ Ha
  iintro Ha
  iapply (wp_peek d i H 9 9) $$ Ha
  iintro %_ Ha
  iapply (wp_put d i H 9 10 9 rfl rfl rfl) $$ Ha
  iintro Ha
  iapply (wp_peek d i H 10 10) $$ Ha
  iintro %_ Ha
  iapply (wp_put d i H 10 11 10 rfl rfl rfl) $$ Ha
  iintro Ha
  iapply (wp_peek d i H 11 11) $$ Ha
  iintro %_ Ha
  iapply (wp_put d i H 11 12 11 rfl rfl rfl) $$ Ha
  iintro Ha
  iapply (wp_peek d i H 12 12) $$ Ha
  iintro %_ Ha
  iapply (wp_put d i H 12 13 12 rfl rfl rfl) $$ Ha
  iintro Ha
  iapply (wp_peek d i H 13 13) $$ Ha
  iintro %_ Ha
  simp only [wp_ret]
  imodintro
  obtain ⟨g, hg⟩ : ∃ g, g = accs i H 2048 := ⟨_, rfl⟩
  simp only [← wp_bind, show 128 * ((15 : Fin 16).val + 1) = 2048 from rfl, ← hg, tup]
  iapply (wp_finish d i O W so H fo (congrFun hg 13) (congrFun hg 14) (congrFun hg 15)) $$ Ha Ho Hs HO
  iintro Ha Ho Hs HO
  isplitl [H0]; · iexact H0
  isplitl [H1]; · iexact H1
  isplitl [Ha]; · iexact Ha
  isplitl [Ho]; · iexact Ho
  isplitl [Hs] <;> iassumption

end Rules

end Cert.KernelIdeal.Rows
-- ==== Proof.KernelIdealLaunch.lean ====
/-
  The launch: the array of rows dealt in read shares to the two SparseCores and their sixteen tiles each, the result cut
  into the tiles' parts; every run ends with the result at the graphs' sums, the arguments as they were and every
  semaphore counter at zero.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.KernelIdealBody

@[expose] public section

noncomputable section

namespace Cert.KernelIdeal.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "hV" => (Memref.whole Cert.KernelIdeal.main_arg0_scv : Memref Cert.KernelIdeal.sig Kind.scVector Space.hbm Cert.KernelIdeal.S32768x512 EltTy.f32)
local notation "oV" => (Memref.whole Cert.KernelIdeal.main_v0_scv : Memref Cert.KernelIdeal.sig Kind.scVector Space.hbm Cert.KernelIdeal.S16x512 EltTy.f32)
local notation "bV" => (Memref.whole Cert.KernelIdeal.cc0_scratch0 : Memref Cert.KernelIdeal.sig Kind.scVector Space.vmem Cert.KernelIdeal.S2x128x256 EltTy.f32)
local notation "aV" => (Memref.whole Cert.KernelIdeal.cc0_scratch1 : Memref Cert.KernelIdeal.sig Kind.scVector Space.vmem Cert.KernelIdeal.S256 EltTy.f32)

/-! ## The program as the launch theorem sees it -/

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The scratch of two halves -/

section Scratch
variable (d : Dev nD) (i : grid0.Coords)

/-- A half of the scratch is the elements whose first index is its number. -/
theorem mem_half (b : Fin 2) (y : S2x128x256.Idx) : y ∈ (half bV b).view.set ↔ (y 0).val = b.val := by
  have e : (half bV b).view.set = (Rect.unit (s := S2x128x256) ![b.val, 0, 0] S1x128x256.size (half_inb b)).set := by
    show (((bV).view.slice (Rect.unit (s := S2x128x256) ![b.val, 0, 0] S1x128x256.size (half_inb b))).reshape S128x256 squeezes_S1x128x256_S128x256.numel_eq).set = _
    rw [View.set_reshape]
    exact View.set_slice_whole _ _
  rw [e, Rect.mem_set_unit]
  have h1 : (y 1).val < 128 := (y 1).isLt
  have h2 : (y 2).val < 256 := (y 2).isLt
  constructor
  · intro h
    have h0 : b.val ≤ (y 0).val ∧ (y 0).val < b.val + 1 := h 0
    omega
  · intro h a
    fin_cases a
    · show b.val ≤ (y 0).val ∧ (y 0).val < b.val + 1
      omega
    · show 0 ≤ (y 1).val ∧ (y 1).val < 0 + 128
      omega
    · show 0 ≤ (y 2).val ∧ (y 2).val < 0 + 256
      omega

/-- What is not in the first half is in the second. -/
theorem other_half : Finset.univ \ (half bV 0).view.set = (half bV 1).view.set := by
  ext y
  have h0 : (y 0).val < 2 := (y 0).isLt
  rw [Finset.mem_sdiff, mem_half, mem_half]
  show y ∈ Finset.univ ∧ ¬(y 0).val = 0 ↔ (y 0).val = 1
  simp only [Finset.mem_univ, true_and]
  omega

/-- The scratch is its two halves. -/
theorem scratch_split (f : S2x128x256.Idx → F .f32) :
    ((thr d i).loc cc0_scratch0 ↦{fullShare} f : sProp 𝕄) ⊢ iprop(halfPts d i 0 f ∗ halfPts d i 1 f) := by
  refine ((pointsTo_split_subset (Finset.subset_univ (half bV 0).view.set)).1).trans ?_
  rw [other_half]

/-- The two halves, whatever each holds, are the scratch. -/
theorem scratch_join (f0 f1 : S2x128x256.Idx → F .f32) :
    iprop(halfPts d i 0 f0 ∗ halfPts d i 1 f1) ⊢ (iprop(∃ f, (thr d i).loc cc0_scratch0 ↦{fullShare} f) : sProp 𝕄) := by
  have e0 : (halfPts d i 0 f0 : sProp 𝕄) = halfPts d i 0 (fun y => if (y 0).val = 0 then f0 y else f1 y) :=
    pointsTo_congr fun y hy => (if_pos ((mem_half 0 y).1 hy)).symm
  have e1 : (halfPts d i 1 f1 : sProp 𝕄) = halfPts d i 1 (fun y => if (y 0).val = 0 then f0 y else f1 y) :=
    pointsTo_congr fun y hy => (if_neg (by rw [(mem_half 1 y).1 hy]; decide)).symm
  rw [e0, e1]
  iintro H
  iexists (fun y => if (y 0).val = 0 then f0 y else f1 y)
  iapply (pointsTo_split_subset (Finset.subset_univ (half bV 0).view.set)).2
  rw [other_half]
  iexact H

end Scratch

/-! ## The operands, and who holds them -/

variable (m : (ℓ : Loc nD τ sig) → Buf (Elt F) ℓ) (ρ : Dev nD → PrngReg)

abbrev hLoc (d : Dev nD) : Loc nD τ sig := (SparseCore.T d).loc main_arg0
abbrev zLoc (d : Dev nD) : Loc nD τ sig := (SparseCore.T d).loc main_arg1
abbrev oLoc (d : Dev nD) : Loc nD τ sig := (SparseCore.T d).loc main_v0

/-- Tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A SparseCore's share of the array of rows, a tile's share of that, and a half's share of the tile's. -/
abbrev coreShare (c : Fin 2) : PosShare TreeShare := Transfers.dealOf fullShare (Finset.univ : Finset (Fin 2)) c
abbrev tileShare (c : Fin 2) (s : Fin 16) : PosShare TreeShare := Transfers.dealOf (coreShare c) (Finset.univ : Finset (Fin 16)) s
abbrev halfShare (q : PosShare TreeShare) (b : Fin 2) : PosShare TreeShare := Transfers.dealOf q (Finset.univ : Finset (Fin 2)) b

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- Dealing a share in two. -/
theorem deal_two {ℓ : Loc nD τ sig} (q : PosShare TreeShare) (f : Buf (Elt F) ℓ) :
    (ℓ ↦{q} f : sProp 𝕄) = iprop((ℓ ↦{halfShare q 0} f) ∗ ℓ ↦{halfShare q 1} f) := by
  rw [Transfers.pointsTo_deal (Finset.univ : Finset (Fin 2)) Finset.univ_nonempty q, bigSep_two]

/-- A tile's part of the result: its graph's row, in its SparseCore's half of the columns. -/
theorem mem_outSet (i : grid0.Coords) (y : S16x512.Idx) : y ∈ outSet i ↔ (y 0).val = (i 1).val ∧ (y 1).val / 256 = (i 0).val := by
  have hc : (i 0).val < 2 := (i 0).isLt
  constructor
  · intro hy
    obtain ⟨p, -, rfl⟩ := Finset.mem_map.1 hy
    have hp : (p 0).val < 256 := (p 0).isLt
    rw [outRow_emb]
    refine ⟨rfl, ?_⟩
    show (256 * (i 0).val + (p 0).val) / 256 = (i 0).val
    omega
  · rintro ⟨h0, h1⟩
    have hy1 : (y 1).val < 512 := (y 1).isLt
    refine Finset.mem_map.2 ⟨(fun | 0 => ⟨(y 1).val % 256, Nat.mod_lt _ (by decide)⟩ : S256.Idx), Finset.mem_univ _, ?_⟩
    rw [outRow_emb]
    funext a
    refine Fin.ext ?_
    fin_cases a
    · exact h0.symm
    · show 256 * (i 0).val + (y 1).val % 256 = (y 1).val
      omega

/-- A SparseCore's part of the result: its tiles' parts. -/
def coreSet (c : Fin 2) : Finset S16x512.Idx := (Finset.univ : Finset (Fin 16)).biUnion fun s => outSet (coordsV c s)

theorem mem_coreSet (c : Fin 2) (y : S16x512.Idx) : y ∈ coreSet c ↔ (y 1).val / 256 = c.val := by
  unfold coreSet
  rw [Finset.mem_biUnion]
  constructor
  · rintro ⟨s, -, h⟩
    exact ((mem_outSet _ y).1 h).2
  · intro h
    exact ⟨y 0, Finset.mem_univ _, (mem_outSet _ y).2 ⟨rfl, h⟩⟩

/-- The result at a SparseCore's part is its tiles' parts of it. -/
theorem core_parts (d : Dev nD) (c : Fin 2) (f : S16x512.Idx → F .f32) :
    (oLoc d ↦[coreSet c]{fullShare} f : sProp 𝕄) = bigSep Finset.univ fun s : Fin 16 => oLoc d ↦[outSet (coordsV c s)]{fullShare} f := by
  refine pointsTo_biUnion (ℓ := oLoc d) Finset.univ (fun s => outSet (coordsV c s)) fun s _ s' _ hne => ?_
  refine Finset.disjoint_left.2 fun y h h' => hne ?_
  exact Fin.ext (((mem_outSet _ y).1 h).1.symm.trans ((mem_outSet _ y).1 h').1)

/-- The result is the SparseCores' parts of it. -/
theorem whole_parts (d : Dev nD) (f : S16x512.Idx → F .f32) :
    (oLoc d ↦{fullShare} f : sProp 𝕄) = bigSep Finset.univ fun c : Fin 2 => oLoc d ↦[coreSet c]{fullShare} f := by
  have e : (Finset.univ : Finset (Fin 2)).biUnion coreSet = Finset.univ := by
    refine Finset.eq_univ_iff_forall.2 fun y => Finset.mem_biUnion.2 ?_
    have hy1 : (y 1).val < 512 := (y 1).isLt
    exact ⟨⟨(y 1).val / 256, by omega⟩, Finset.mem_univ _, (mem_coreSet _ y).2 rfl⟩
  refine Eq.trans ?_ (pointsTo_biUnion (ℓ := oLoc d) Finset.univ coreSet ?_)
  · rw [e]
  · intro c _ c' _ hne
    refine Finset.disjoint_left.2 fun y h h' => hne ?_
    exact Fin.ext (((mem_coreSet _ y).1 h).symm.trans ((mem_coreSet _ y).1 h'))

/-- The rows and the result, as a SparseCore and as a tile is handed them. -/
abbrev corePts (d : Dev nD) (c : Fin 2) (f : S16x512.Idx → F .f32) : sProp 𝕄 :=
  iprop((hLoc d ↦{coreShare c} m (hLoc d)) ∗ oLoc d ↦[coreSet c]{fullShare} f)
abbrev tilePts (d : Dev nD) (c : Fin 2) (s : Fin 16) (f : S16x512.Idx → F .f32) : sProp 𝕄 :=
  iprop((hLoc d ↦{tileShare c s} m (hLoc d)) ∗ oLoc d ↦[outSet (coordsV c s)]{fullShare} f)

theorem core_tiles (d : Dev nD) (c : Fin 2) (f : S16x512.Idx → F .f32) :
    (corePts m d c f : sProp 𝕄) = bigSep Finset.univ fun s : Fin 16 => tilePts m d c s f := by
  rw [bigSep_sep', ← core_parts, ← Transfers.pointsTo_deal (Finset.univ : Finset (Fin 16)) Finset.univ_nonempty]

theorem whole_cores (d : Dev nD) (f : S16x512.Idx → F .f32) :
    (iprop((hLoc d ↦{fullShare} m (hLoc d)) ∗ oLoc d ↦{fullShare} f) : sProp 𝕄) = bigSep Finset.univ fun c : Fin 2 => corePts m d c f := by
  rw [bigSep_sep', ← whole_parts, ← Transfers.pointsTo_deal (Finset.univ : Finset (Fin 2)) Finset.univ_nonempty]

/-- The call takes the rows and the result; each task its shares, and brings them back with the sums written. -/
def P : (K (F := F)).Pay (nD := nD) (Val := Elt F) (Name := ℕ) (U := UU) where
  st := fun q d c => match q with | 0 => corePts m d c (m (oLoc d))
  dn := fun q d c => match q with | 0 => corePts m d c (outArr (m (hLoc d)))
  go := fun q d c s => match q with | 0 => tilePts m d c s (m (oLoc d))
  td := fun q d c s => match q with | 0 => tilePts m d c s (outArr (m (hLoc d)))
  x := fun _ _ => iprop(emp)

instance P_storable : (P (F := F) m).IsStorable where
  st q d c := match q with | 0 => (inferInstance : BI.Storable (upEmb : UEmb _ 𝕄) (corePts m d c (m (oLoc d))))
  dn q d c := match q with | 0 => (inferInstance : BI.Storable (upEmb : UEmb _ 𝕄) (corePts m d c (outArr (m (hLoc d)))))
  go q d c s := match q with | 0 => (inferInstance : BI.Storable (upEmb : UEmb _ 𝕄) (tilePts m d c s (m (oLoc d))))
  td q d c s := match q with | 0 => (inferInstance : BI.Storable (upEmb : UEmb _ 𝕄) (tilePts m d c s (outArr (m (hLoc d)))))

theorem vecSplit : (K (F := F)).VecSplit' (P m) 0 := by
  intro d c
  show corePts m d c (m (oLoc d)) ⊢ |={Set.univ}=> iprop((bigSep Finset.univ fun s : Fin 16 => tilePts m d c s (m (oLoc d)))
      ∗ ((bigSep Finset.univ fun s : Fin 16 => tilePts m d c s (outArr (m (hLoc d)))) -∗ corePts m d c (outArr (m (hLoc d)))))
  rw [core_tiles m d c, core_tiles m d c]
  iintro H; imodintro
  isplitl [H]; · iexact H
  iintro H; iexact H

/-! ## A task -/

section Task
variable (d : Dev nD) (i : grid0.Coords)

abbrev cell0 : GSem nD τ sig := (thr d i, .dma cc0_scratch2.sem)
abbrev cell1 : GSem nD τ sig := (thr d i, .dma cc0_scratch3.sem)
abbrev cellO : GSem nD τ sig := (thr d i, .dma cc0_scoped0.sem)

/-- The body's three cells are among the subcore's own. -/
theorem own_cells :
    (ownSems0 (thr d i) : sProp 𝕄)
      = iprop(semVal (cell0 d i) 0 ∗ semVal (cell1 d i) 0 ∗ semVal (cellO d i) 0
          ∗ bigSep ((((ownCells (thr d i)).erase (cell0 d i)).erase (cell1 d i)).erase (cellO d i)) fun g => semVal g 0) := by
  have h0 : cell0 d i ∈ ownCells (thr d i) := mem_ownCells.mpr ⟨rfl, show (SemLoc.dma cc0_scratch2.sem : SemLoc sig).isScoped .scVector = true by decide⟩
  have h1 : cell1 d i ∈ ownCells (thr d i) := mem_ownCells.mpr ⟨rfl, show (SemLoc.dma cc0_scratch3.sem : SemLoc sig).isScoped .scVector = true by decide⟩
  have h2 : cellO d i ∈ ownCells (thr d i) := mem_ownCells.mpr ⟨rfl, show (SemLoc.dma cc0_scoped0.sem : SemLoc sig).isScoped .scVector = true by decide⟩
  have n10 : cell1 d i ≠ cell0 d i := fun e => absurd (congrArg Prod.snd e) (show (SemLoc.dma cc0_scratch3.sem : SemLoc sig) ≠ SemLoc.dma cc0_scratch2.sem by decide)
  have n20 : cellO d i ≠ cell0 d i := fun e => absurd (congrArg Prod.snd e) (show (SemLoc.dma cc0_scoped0.sem : SemLoc sig) ≠ SemLoc.dma cc0_scratch2.sem by decide)
  have n21 : cellO d i ≠ cell1 d i := fun e => absurd (congrArg Prod.snd e) (show (SemLoc.dma cc0_scoped0.sem : SemLoc sig) ≠ SemLoc.dma cc0_scratch3.sem by decide)
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

/-- The two scratch buffers are among the subcore's own. -/
theorem own_scratch :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  have h0 := SparseCore.Cfg.mem_ownRefs_of_owner (p := Proc.scVector (cV i) (jV i)) (b := (Proc.scVector (cV i) (jV i)).devRef cc0_scratch0) rfl
  have h1 := SparseCore.Cfg.mem_ownRefs_of_owner (p := Proc.scVector (cV i) (jV i)) (b := (Proc.scVector (cV i) (jV i)).devRef cc0_scratch1) rfl
  have n10 : (Proc.scVector (cV i) (jV i)).devRef cc0_scratch1 ≠ (Proc.scVector (cV i) (jV i)).devRef cc0_scratch0 :=
    fun e => absurd (Proc.devRef_injective _ e) (show (cc0_scratch1 : Ref sig .scVector) ≠ cc0_scratch0 by decide)
  unfold SparseCore.Cfg.ownBufs
  refine (SparseCore.bigSep_erase' h0).trans ?_
  rw [SparseCore.bigSep_erase' (Finset.mem_erase.mpr ⟨n10, h1⟩)]

/-- The task: its share of the rows and its part of the result in, the same share and the sums out. -/
theorem tile_body (hF : (K (F := F)).Facts) (q : PosShare TreeShare) (H : S32768x512.Idx → F .f32) (fo : S16x512.Idx → F .f32)
    (O : CellTallies nD τ sig (HIx 1)) (W : Waits sig (HIx 1)) (hO : ∀ g, O g none = 0) :
    (iprop(levAts (K (F := F)).L (K (F := F)).lev ∗ emp
        ∗ ((hLoc d ↦{q} H) ∗ oLoc d ↦[outSet i]{fullShare} fo)
        ∗ scopedBufs (thr d i) ∗ scopedSems0 (thr d i) ∗ owes (thr d i) O W) : sProp 𝕄)
      ⊢ wp frame (wpE (defs₀ (F := F)) 𝒱₀ (thr d i) none) Set.univ
          (cc0_agg i hV (Memref.isWhole_whole _) oV (Memref.isWhole_whole _) bV (Memref.isWhole_whole _) aV (Memref.isWhole_whole _)
            cc0_scratch2 cc0_scratch3 cc0_scoped0)
          fun _ => iprop(((hLoc d ↦{q} H) ∗ oLoc d ↦[outSet i]{fullShare} outArr H)
            ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), own_cells, own_scratch]
  iintro ⟨#Hlv, -, ⟨Hh, Ho⟩, ⟨⟨%fb, Hb⟩, ⟨%fa, Ha⟩, Hbufs⟩, ⟨Hs0, Hs1, HsO, Hsems⟩, HO⟩
  ihave Hmw := (show levAts (K (F := F)).L (K (F := F)).lev ⊢ Transfers.MayWaits (thr d i) (default : HIx 1) O from
    (K (F := F)).mayWaits_none (thr := thr d i) hO) $$ Hlv
  ihave Hb2 := (scratch_split d i fb) $$ Hb
  icases Hb2 with ⟨Hb0, Hb1⟩
  ihave Hh2 := (Entails.of_eq (deal_two q H)) $$ Hh
  icases Hh2 with ⟨Hh0, Hh1⟩
  ihave Hrun := (wp_body d i O W cc0_scratch2 cc0_scratch3 cc0_scoped0 (halfShare q 0) (halfShare q 1) H fo) $$ [Hb0 Hb1 Hh0 Hh1 Hs0 Hs1 HsO Ha Ho HO]
  · unfold idle summed debt
    isplitl [Hb0 Hs0 Hh0]
    · isplitl [Hb0]; · iexists fb; iexact Hb0
      isplitl [Hs0]; · iexact Hs0
      iexact Hh0
    isplitl [Hb1 Hs1 Hh1]
    · isplitl [Hb1]; · iexists fb; iexact Hb1
      isplitl [Hs1]; · iexact Hs1
      iexact Hh1
    isplitl [Ha]
    · iexists fa
      isplitr; · ipureintro; intro p hp; exact absurd hp (Nat.not_lt_zero _)
      iexact Ha
    isplitl [Ho]; · iexact Ho
    isplitl [HsO]; · iexact HsO
    isplitr; · iexact Hmw
    iexists W
    isplitr; · ipureintro; exact fun p hp => Or.inl hp
    iexact HO
  iapply (wp_wand frame (wpE (defs₀ (F := F)) 𝒱₀ (thr d i) none) Set.univ) $$ Hrun
  unfold idle debt
  iintro %_ ⟨⟨⟨%f0, Hb0⟩, Hs0, Hh0⟩, ⟨⟨%f1, Hb1⟩, Hs1, Hh1⟩, ⟨%fa', Ha⟩, Ho, HsO, -, HO⟩
  isplitl [Hh0 Hh1 Ho]
  · isplitr [Ho]
    · iapply (Entails.of_eq (deal_two q H).symm)
      isplitl [Hh0] <;> iassumption
    iexact Ho
  isplitl [Hb0 Hb1 Ha Hbufs]
  · isplitl [Hb0 Hb1]
    · iapply (scratch_join d i f0 f1)
      isplitl [Hb0] <;> iassumption
    isplitl [Ha]; · iexists fa'; iexact Ha
    iexact Hbufs
  isplitl [Hs0 Hs1 HsO Hsems]
  · isplitl [Hs0]; · iexact Hs0
    isplitl [Hs1]; · iexact Hs1
    isplitl [HsO]; · iexact HsO
    iexact Hsems
  iexact HO

end Task

/-! ## The obligation -/

theorem defs₀_vector (c : Fin τ.nSC) (s : Fin τ.nSub) :
    defs₀ (F := F) (.scVector c s) 0 ()
      = SparseCore.onTile hcore0 hsub0 (fun c s => cc0_agg (coordsV c s)
          hV (Memref.isWhole_whole _) oV (Memref.isWhole_whole _) bV (Memref.isWhole_whole _) aV (Memref.isWhole_whole _)
          cc0_scratch2 cc0_scratch3 cc0_scoped0) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tileShare c i) (m (hLoc d)) (m (oLoc d)) O W hO).trans (wp_mono frame _ _ fun _ => obl_post)

/-! ## The launch's ghost state -/

theorem bigSep_nothing {I : Type} (s : Finset I) : (bigSep s fun _ => iprop(emp)) = (iprop(emp) : sProp 𝕄) := bigSep_emp_const s

/-- The handshakes' cells at their start, no transfer counted. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## @main on the TensorCore -/

theorem unscopedBufs_eq (d : Dev nD) (W : (b : Ref sig .tc) → Buf (Elt F) ((d.tc : Thread nD τ).loc b)) :
    (unscopedBufs d W : sProp 𝕄) = iprop((hLoc d ↦{fullShare} W main_arg0) ∗ (zLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_eq (d : Dev nD) : (bigSep Finset.univ fun c : Fin ((K (F := F)).nCore 0) => (P m).st 0 d c)
    = iprop((hLoc d ↦{fullShare} m (hLoc d)) ∗ oLoc d ↦{fullShare} m (oLoc d)) := (whole_cores m d (m (oLoc d))).symm
theorem dn_eq (d : Dev nD) : (bigSep Finset.univ fun c : Fin ((K (F := F)).nCore 0) => (P m).dn 0 d c)
    = iprop((hLoc d ↦{fullShare} m (hLoc d)) ∗ oLoc d ↦{fullShare} outArr (m (hLoc d))) := (whole_cores m d _).symm

/-- What a device's TensorCore holds at the end: the arguments as they were, the result at the sums. -/
abbrev FIN (d : Dev nD) : sProp 𝕄 :=
  iprop((hLoc d ↦{fullShare} m (hLoc d)) ∗ (zLoc d ↦{fullShare} m (zLoc d)) ∗ oLoc d ↦{fullShare} outArr (m (hLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hz, Ho⟩, Hts, -⟩, -⟩
  iapply ((K (F := F)).wp_run (D (F := F)) 𝒱 (EH := EH) (P := P m) κ d 0) $$ [Hst Hh Hz Ho Hb Hts]
  isplitr; · iexact Hctx
  isplitl [Hst]; · iexact Hst
  isplitl [Hh Ho]
  · rw [st_eq]
    isplitl [Hh] <;> iassumption
  iintro ⟨Hst, Hdn⟩
  ihave Hdn' := (Entails.of_eq (dn_eq m d)) $$ Hdn
  icases Hdn' with ⟨Hh, Ho⟩
  imodintro
  isplitl [Hst]; · iexact Hst
  isplitr [Hb Hts]
  · isplitl [Hh]; · iexact Hh
    isplitl [Hz] <;> iassumption
  isplitl [Hb] <;> iassumption

/-- What holds of the memory at the end, device by device. -/
def fq (d : Dev nD) (s' : Phys nD τ sig (Elt F)) : Prop :=
  s'.mem.mem (hLoc d) = m (hLoc d) ∧ s'.mem.mem (zLoc d) = m (zLoc d) ∧ s'.mem.mem (oLoc d) = outArr (m (hLoc d))

set_option maxRecDepth 16384 in
theorem hfin (d : Dev nD) (s' : Phys nD τ sig (Elt F)) : iprop(FIN m d ∗ SI s') ⊢ (⌜fq m d s'⌝ : sProp 𝕄) := by
  iintro ⟨⟨Hh, Hz, Ho⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := zLoc d) (I := Finset.univ) (q := fullShare) (f := m (zLoc d)))) $$ [HSI Hz]
  · isplitl [HSI] <;> iassumption
  icases H with ⟨%h2, HSI, -⟩
  ihave H := (SI_pointsTo_agree (st := s') (ℓ := oLoc d) (I := Finset.univ) (q := fullShare) (f := outArr (m (hLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every run of the kernel ends with the result at the graphs' sums, the arguments unchanged, every counter at zero. -/
theorem run_main [∀ e, Nonempty (Elt F e)] :
    θ_run (Cert.KernelIdeal.defs (F := F)) (Cert.KernelIdeal.threads (F := F)) ⟨m, fun _ => 0, ρ⟩ (fun r =>
      (∀ c : Dev nD, r.2.mem (hLoc c) = m (hLoc c) ∧ r.2.mem (zLoc c) = m (zLoc c) ∧ r.2.mem (oLoc c) = outArr (m (hLoc c)))
      ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.KernelIdeal.Rows

end
-- ==== Proof.SegmentIds.lean ====
/- The reference's segment ids. `jnp.repeat(arange(16), sizes, total_repeat_length=32768)` prints as sixteen running
   sums of the sizes, a mark at each segment's first row, a running count of the marks, and a lookup. Each is named
   here, and read at an index where every size is 2048: row `r` gets the id `r / 2048`. -/
module

public import proofs.«01_k».proof.Proof.Gen.ReferenceIdeal.Run
public import Idealize.ShloMosaic.Lib.Routing.Ops
public import Idealize.ShloMosaic.Lib.Routing.OpsPair
public import Idealize.ShloMosaic.Lib.Routing.OpsSearch
public import Idealize.ShloMosaic.Lib.ReduceAll

@[expose] public section

noncomputable section

namespace Cert.ReferenceIdeal.Segments

open Cert.ReferenceIdeal Cert.ReferenceIdeal.Gen Idealize.ShloMosaic Idealize.ShloMosaic.Routing Idealize.ShloMosaic.ValueIdx

/-! ## The lines, named -/

/-- Each segment's size beside the one before it: the sizes shifted by one place, a zero first. -/
def shifted (sz : IVec S16 32) : IVec S16 32 :=
  Host.scatter scatter_S16_S1_S__n_0_0_0 (fun _ b => b) (concatenate S16 0 [⟨S1, (extractStridedSlice S1 ![15] sz slices_S16_S1_15)⟩, ⟨S15, (extractStridedSlice S15 ![0] sz slices_S16_S15_0)⟩] concatenates_S1_S15_S16_d0) (broadcastInDim S1 ![] bcast_S_S1 (constantI S_ 32 0#32)) (constantI S_ 32 0#32)

/-- Each segment's first row. -/
def first (sz : IVec S16 32) : IVec S16 32 :=
  Host.reduceWindow IntOp.addi ![16] ![1] ![15] ![0] (shifted sz) (broadcastInDim S_ ![] bcast_S_S_ (constantI S_ 32 0#32)) reduceWindows_S16_S16_w16s1p15_0 h_S_

/-- The same with a negative one counted from the end. -/
def firstWrapped (sz : IVec S16 32) : IVec S16 32 :=
  select (cmpi .slt (first sz) (broadcastInDim S16 ![] bcast_S_S16 (constantI S_ 32 0#32))) (addi (first sz) (broadcastInDim S16 ![] bcast_S_S16 (constantI S_ 32 32768#32))) (first sz)

/-- How many segments begin at each row. -/
def marks (sz : IVec S16 32) : IVec S32768 32 :=
  Host.scatter scatter_S32768_S16x1_S16_n_0_0_1 IntOp.addi (broadcastInDim S32768 ![] bcast_S_S32768 (constantI S_ 32 0#32)) (broadcastInDim S16x1 ![0] bcast_S16_S16x1_0 (firstWrapped sz)) (broadcastInDim S16 ![] bcast_S_S16 (constantI S_ 32 1#32))

/-- How many segments begin at each row or before it, less one. -/
def places (sz : IVec S16 32) : IVec S32768 32 :=
  subi (Host.reduceWindow IntOp.addi ![32768] ![1] ![32767] ![0] (marks sz) (broadcastInDim S_ ![] bcast_S_S_ (constantI S_ 32 0#32)) reduceWindows_S32768_S32768_w32768s1p32767_0 h_S_) (broadcastInDim S32768 ![] bcast_S_S32768 (constantI S_ 32 1#32))

/-- Those as a column of lookup indices, a negative one counted from the end. -/
def lookups (sz : IVec S16 32) : IVec S32768x1 32 :=
  broadcastInDim S32768x1 ![0] bcast_S32768_S32768x1_0 (select (cmpi .slt (places sz) (broadcastInDim S32768 ![] bcast_S_S32768 (constantI S_ 32 0#32))) (addi (places sz) (broadcastInDim S32768 ![] bcast_S_S32768 (constantI S_ 32 16#32))) (places sz))

/-- Which of the lookups fall inside the table. -/
def inside (sz : IVec S16 32) : IVec S32768 1 :=
  Host.reduce IntOp.andi (andi (cmpi .sge (lookups sz) (broadcastInDim S32768x1 ![] bcast_S_S32768x1 (constantI S_ 32 0#32))) (cmpi .sle (lookups sz) (broadcastInDim S32768x1 ![0, 1] bcast_S1x1_S32768x1_0_1 (broadcastInDim S1x1 ![1] bcast_S1_S1x1_1 (constantI S1 32 15#32))))) (constantI S_ 1 1#1) reducesTo_S32768x1_S32768_d1 h_S_

/-- Each row's segment id, as a column. -/
def ids (sz : IVec S16 32) : IVec S32768x1 32 :=
  broadcastInDim S32768x1 ![0] bcast_S32768_S32768x1_0 (select (inside sz) (Host.gather gather_S16_S32768x1_S32768_n_0_n_n_0_1_1 (iotaInDim S16 32 0) (lookups sz)) (broadcastInDim S32768 ![] bcast_S_S32768 (constantI S_ 32 2147483648#32)))

/-- The reference's result is the scatter-add of the rows of its first argument by the ids of its second. -/
theorem result_eq {F : FTy → Type} [FloatOps F] (m : (ℓ : Loc nD τ sig) → Buf (Elt F) ℓ) (c : Dev nD) :
    Value.res_out0 m c
      = Host.scatterAdd scatter_S16x512_S32768x1_S32768x512_1_0_0_1 (broadcastInDim S16x512 ![] bcast_S_S16x512 (constant S_ .f32 0x00000000#32))
          (ids (m ((c.tc : Thread nD τ).loc main_arg1))) (m ((c.tc : Thread nD τ).loc main_arg0)) := by
  unfold Value.res_out0 Value.res_main_v20
  rfl

/-! ## Read where every size is 2048 -/

/-- Every size is 2048. -/
abbrev sizes : IVec S16 32 := fun _ => 2048#32

theorem shifted_at (i : Fin 16) : shifted sizes (ix1 i) = BitVec.ofNat 32 (if i.val = 0 then 0 else 2048) := by
  revert i
  decide

/-- The sum of the first `j + 1` shifted sizes. -/
theorem sum_shifted (j : ℕ) : ((List.range (j + 1)).map fun i => if i = 0 then 0 else 2048).sum = 2048 * j := by
  induction j with
  | zero => rfl
  | succ j ih =>
    rw [List.range_succ, List.map_append, List.sum_append, ih]
    simp
    omega

theorem first_at (j : Fin 16) : first sizes (ix1 j) = BitVec.ofNat 32 (2048 * j.val) := by
  unfold first
  rw [← sum_shifted]
  exact cumsum1 rfl _ (fun i => if i = 0 then 0 else 2048) shifted_at _ (bc0 _ _ _) _ _ j

theorem firstWrapped_at (j : Fin 16) : firstWrapped sizes (ix1 j) = BitVec.ofNat 32 (2048 * j.val) := by
  have hj := j.isLt
  refine Eq.trans (wrap_of_lt (first sizes (ix1 j)) _ ?_) (first_at j)
  rw [first_at, BitVec.toNat_ofNat]
  omega

/-- The index a mark is put at. -/
theorem mark_start (idx : IVec S16x1 32) (i : Fin 16) :
    scatter_S32768_S16x1_S16_n_0_0_1.start (ix1 i) idx 0 = (idx (ix2 i (0 : Fin 1))).toInt := by
  refine congrArg (fun k => (idx k).toInt) (funext fun a => ?_)
  match a with
  | ⟨0, _⟩ => rfl
  | ⟨1, _⟩ => rfl

/-- Mark `i` lands at row `r` exactly when segment `i` begins there. -/
theorem mark_lands (i : Fin 16) (r : Fin 32768) :
    scatter_S32768_S16x1_S16_n_0_0_1.resultIdx? (ix1 i) (broadcastInDim S16x1 ![0] bcast_S16_S16x1_0 (firstWrapped sizes)) = some (ix1 r)
      ↔ 2048 * i.val = r.val := by
  have hi := i.isLt
  rw [resultIdx?_ix1, mark_start, show scatter_S32768_S16x1_S16_n_0_0_1.window (ix1 i) 0 = 0 from rfl]
  rw [show broadcastInDim S16x1 ![0] bcast_S16_S16x1_0 (firstWrapped sizes) (ix2 i (0 : Fin 1)) = _ from bcCol _ _ i, firstWrapped_at,
    StableHlo.Predicate.toInt_ofNat_small _ (by omega)]
  omega

/-- One segment begins at a multiple of 2048, none elsewhere. -/
theorem count_marks (r n : ℕ) : Nat.count (fun i => 2048 * i = r) n = if r % 2048 = 0 ∧ r < 2048 * n then 1 else 0 := by
  induction n with
  | zero => simp
  | succ n ih =>
    rw [Nat.count_succ, ih]
    split_ifs <;> omega

/-- A fold that counts the positions at which something holds. -/
theorem fold_count {ι : Type} (l : List ι) (step : BitVec 32 → ι → BitVec 32) (P : ι → Prop) [DecidablePred P] (z : ℕ)
    (h : ∀ a n, step a n = if P n then IntOp.addi a 1#32 else a) :
    l.foldl step (BitVec.ofNat 32 z) = BitVec.ofNat 32 (z + l.countP fun n => decide (P n)) := by
  induction l generalizing z with
  | nil => rfl
  | cons n l ih =>
    rw [List.foldl_cons, h]
    by_cases hn : P n
    · rw [if_pos hn, show IntOp.addi (BitVec.ofNat 32 z) 1#32 = BitVec.ofNat 32 (z + 1) from (BitVec.ofNat_add ..).symm, ih,
        List.countP_cons_of_pos (p := fun n => decide (P n)) (decide_eq_true hn)]
      exact congrArg _ (by omega)
    · rw [if_neg hn, ih, List.countP_cons_of_neg (p := fun n => decide (P n)) (by simpa using hn)]

theorem marks_at (r : Fin 32768) : marks sizes (ix1 r) = BitVec.ofNat 32 (if r.val % 2048 = 0 then 1 else 0) := by
  have hr := r.isLt
  unfold marks
  refine (scatter_at _ _ _ _ _ (ix1 r)).trans ?_
  refine (fold_count (List.finRange S16.numel) _ (fun n => 2048 * n.val = r.val) 0 fun a n => ?_).trans ?_
  · rw [symm1 n]
    exact if_congr (mark_lands (n.cast (numel1 16)) r) rfl rfl
  · rw [Nat.zero_add, countP_finRange _ (fun i => 2048 * i = r.val), count_marks]
    refine congrArg (BitVec.ofNat 32) (if_congr (and_iff_left ?_) rfl rfl)
    exact Nat.lt_of_lt_of_eq hr (congrArg (2048 * ·) (numel1 16)).symm

/-- The marks up to row `j`. -/
theorem sum_marks (j : ℕ) : ((List.range (j + 1)).map fun i => if i % 2048 = 0 then 1 else 0).sum = j / 2048 + 1 := by
  induction j with
  | zero => rfl
  | succ j ih =>
    rw [List.range_succ, List.map_append, List.sum_append, ih]
    simp only [List.map_cons, List.map_nil, List.sum_cons, List.sum_nil]
    split_ifs <;> omega

theorem places_at (r : Fin 32768) : places sizes (ix1 r) = BitVec.ofNat 32 (r.val / 2048) := by
  have hr := r.isLt
  have hc := cumsum1 (N := 32768) (Nm1 := 32767) rfl (marks sizes) (fun i => if i % 2048 = 0 then 1 else 0) marks_at
    (broadcastInDim S_ ![] bcast_S_S_ (constantI S_ 32 0#32)) (bc0 _ _ _) reduceWindows_S32768_S32768_w32768s1p32767_0 h_S_ r
  rw [sum_marks] at hc
  show _ - 1#32 = _
  refine Eq.trans (congrArg (· - 1#32) hc) ?_
  show BitVec.ofNat 32 (r.val / 2048 + 1) - 1#32 = _
  rw [StableHlo.Predicate.sub_one_ofNat _ (by omega) (by omega)]
  rfl

theorem lookups_at (r : Fin 32768) : lookups sizes (ix2 r (0 : Fin 1)) = BitVec.ofNat 32 (r.val / 2048) := by
  have hr := r.isLt
  refine (bcCol _ _ r).trans ?_
  refine Eq.trans (wrap_of_lt (places sizes (ix1 r)) _ ?_) (places_at r)
  rw [places_at, BitVec.toNat_ofNat]
  omega

theorem inside_at (r : Fin 32768) : inside sizes (ix1 r) = 1#1 := by
  refine Host.reduce_andi_one _ _ _ _ _ rfl fun k => ?_
  obtain ⟨p, q, rfl⟩ : ∃ (p : Fin 32768) (q : Fin 1), k = ix2 p q := ⟨k 0, k 1, eq_ix2 k⟩
  obtain rfl : q = 0 := Subsingleton.elim _ _
  have hp := p.isLt
  show IntOp.andi (IntOp.cmpi .sge (lookups sizes (ix2 p 0)) 0#32) (IntOp.cmpi .sle (lookups sizes (ix2 p 0)) 15#32) = 1#1
  have ht : (lookups sizes (ix2 p (0 : Fin 1))).toNat = p.val / 2048 := by
    rw [lookups_at, BitVec.toNat_ofNat]; omega
  rw [(StableHlo.Predicate.sge_iff_toNat (by rw [ht]; omega) (by decide)).2 (Nat.zero_le _),
    (StableHlo.Predicate.sle_iff_toNat (by rw [ht]; omega) (by decide)).2 (by rw [ht]; show _ ≤ 15; omega)]
  rfl

/-- Row `r` belongs to segment `r / 2048`. -/
theorem ids_at (r : Fin 32768) : ids sizes (ix2 r (0 : Fin 1)) = BitVec.ofNat 32 (r.val / 2048) := by
  have hr := r.isLt
  refine (bcCol _ _ r).trans ?_
  show Scalar.select (inside sizes (ix1 r)) _ _ = _
  rw [inside_at]
  refine Eq.trans (?_ : _ = Host.gather gather_S16_S32768x1_S32768_n_0_n_n_0_1_1 (iotaInDim S16 32 0) (lookups sizes) (ix1 r)) ?_
  · rfl
  · exact (take_ap _ rfl rfl rfl rfl _ _ r (by omega) (by omega) (lookups_at r)).trans rfl

end Cert.ReferenceIdeal.Segments

end
-- ==== Proof.SegmentSum.lean ====
/- The two programs' results are one array: the reference's scatter-add of the rows, by the ids, puts in row `s` the sum
   of rows `2048 s` to `2048 s + 2047`, and that is what the kernel leaves there. Addition of extended reals is
   associative and commutative at the infinities too, so nothing is asked of the rows. -/
module

public import proofs.«01_k».proof.Proof.SegmentIds
public import proofs.«01_k».proof.Proof.KernelIdealBody
public import proofs.«01_k».proof.Proof.Gen.Pre_sizes_equal
public import Idealize.ShloMosaic.Lib.ReduceAll
public import Idealize.ShloMosaic.PureOps.Ideal.Laws

@[expose] public section

noncomputable section

namespace Cert.ReferenceIdeal.Segments

open Cert.ReferenceIdeal Cert.ReferenceIdeal.Gen Idealize.ShloMosaic Idealize.ShloMosaic.Routing Idealize.ShloMosaic.ValueIdx
open Cert.KernelIdeal.Rows (rowAt colSum outArr)

/-- The precondition says that every size is 2048. -/
theorem sizes_of_pre (H : FVec Ideal S32768x512 .f32) (sz : IVec S16 32) (h : Cert.Pre_sizes_equal.fn H sz = fun _ => 1#1) : sz = sizes :=
  have : Subsingleton Cert.Pre_sizes_equal.S_.Idx := ⟨fun a b => funext fun k => k.elim0⟩
  funext fun i => StableHlo.Predicate.cmpi_eq_iff.1 (Host.reduce_andi_all _ _ _ _ _ (congrFun h ix0) i)

/-- The kernel's running sum of a column is the sum of its rows. -/
theorem colSum_eq (H : FVec Ideal S32768x512 .f32) (s : Fin 16) (col : Fin 512) (n : ℕ) :
    colSum (F := Ideal) H s col n = ∑ k ∈ Finset.range n, (rowAt (F := Ideal) H (2048 * s.val + k) col : EReal) := by
  induction n with
  | zero => exact Ideal.ofBits_zero_f32
  | succ n ih =>
    rw [Finset.sum_range_succ, ← ih]
    rfl

/-- The index a row is added at. -/
theorem row_start (idx : IVec S32768x1 32) (r : Fin 32768) (q : Fin 512) :
    scatter_S16x512_S32768x1_S32768x512_1_0_0_1.start (ix2 r q) idx 0 = (idx (ix2 r (0 : Fin 1))).toInt := by
  refine congrArg (fun k => (idx k).toInt) (funext fun a => ?_)
  match a with
  | ⟨0, _⟩ => rfl
  | ⟨1, _⟩ => rfl

/-- Row `r`'s element at column `q` is added at row `r / 2048` and column `q`. -/
theorem row_lands (r : Fin 32768) (q : Fin 512) (s : Fin 16) (col : Fin 512) :
    scatter_S16x512_S32768x1_S32768x512_1_0_0_1.resultIdx? (ix2 r q) (ids sizes) = some (ix2 s col) ↔ r.val / 2048 = s.val ∧ q.val = col.val := by
  have hr := r.isLt
  rw [resultIdx?_ix2, row_start, ids_at, StableHlo.Predicate.toInt_ofNat_small _ (by omega),
    show scatter_S16x512_S32768x1_S32768x512_1_0_0_1.window (ix2 r q) 0 = 0 from rfl,
    show scatter_S16x512_S32768x1_S32768x512_1_0_0_1.start (ix2 r q) (ids sizes) 1 = 0 from rfl,
    show scatter_S16x512_S32768x1_S32768x512_1_0_0_1.window (ix2 r q) 1 = q.val from rfl]
  omega

/-- Row `k` of segment `s`, at a column. -/
def rowIx (s : Fin 16) (col : Fin 512) (k : ℕ) : S32768x512.Idx :=
  ix2 (⟨(2048 * s.val + k) % 32768, Nat.mod_lt _ (by decide)⟩ : Fin 32768) col

theorem rowAt_eq (H : FVec Ideal S32768x512 .f32) (s : Fin 16) (col : Fin 512) (k : ℕ) :
    rowAt (F := Ideal) H (2048 * s.val + k) col = H (rowIx s col k) := by
  refine congrArg H (funext fun a => ?_)
  match a with
  | ⟨0, _⟩ => rfl
  | ⟨1, _⟩ => rfl

/-- The reference's scatter-add by the ids, where every size is 2048, is the kernel's array of sums. -/
theorem scatterAdd_eq (H : FVec Ideal S32768x512 .f32) :
    Host.scatterAdd (F := Ideal) scatter_S16x512_S32768x1_S32768x512_1_0_0_1 (broadcastInDim S16x512 ![] bcast_S_S16x512 (constant S_ .f32 0x00000000#32)) (ids sizes) H
      = outArr (F := Ideal) H := by
  funext y
  obtain ⟨s, col, rfl⟩ : ∃ (s : Fin 16) (col : Fin 512), y = ix2 s col := ⟨y 0, y 1, eq_ix2 y⟩
  have hs := s.isLt
  refine Eq.trans ?_ (colSum_eq H s col 2048).symm
  show Ideal.ofBits .f32 0x00000000#32 + ∑ j ∈ Finset.univ.filter (fun j => scatter_S16x512_S32768x1_S32768x512_1_0_0_1.resultIdx? j (ids sizes) = some (ix2 s col)), H j = _
  rw [Ideal.ofBits_zero_f32, zero_add]
  refine (Finset.sum_nbij (rowIx s col) (fun k hk => ?_) (fun k hk l hl e => ?_) (fun j hj => ?_) fun k _ => rowAt_eq H s col k).symm
  · have hk := Finset.mem_range.1 hk
    refine Finset.mem_filter.2 ⟨Finset.mem_univ _, (row_lands _ _ _ _).2 ⟨?_, rfl⟩⟩
    show (2048 * s.val + k) % 32768 / 2048 = s.val
    omega
  · have hk := Finset.mem_range.1 hk
    have hl := Finset.mem_range.1 hl
    have e : (2048 * s.val + k) % 32768 = (2048 * s.val + l) % 32768 := congrArg (fun i : S32768x512.Idx => (i 0).val) e
    omega
  · obtain ⟨r, q, rfl⟩ : ∃ (r : Fin 32768) (q : Fin 512), j = ix2 r q := ⟨j 0, j 1, eq_ix2 j⟩
    have hr := r.isLt
    obtain ⟨h0, h1⟩ := (row_lands _ _ _ _).1 (Finset.mem_filter.1 hj).2
    refine ⟨r.val % 2048, Finset.mem_coe.2 (Finset.mem_range.2 (Nat.mod_lt _ (by decide))), ?_⟩
    obtain rfl : q = col := Fin.ext h1
    refine congrArg (fun p : Fin 32768 => (ix2 p q : S32768x512.Idx)) (Fin.ext ?_)
    show (2048 * s.val + r.val % 2048) % 32768 = r.val
    omega

end Cert.ReferenceIdeal.Segments

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_sizes_equal
public import proofs.«01_k».proof.Proof.KernelLaunch
public import proofs.«01_k».proof.Proof.KernelIdealLaunch
public import proofs.«01_k».proof.Proof.SegmentSum
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its arguments and every counter as they were. -/
theorem frame_kernel : Cert.quiescent_Kernel := fun m g _ =>
  (θ_run _ _ _).mono (fun _ h => ⟨fun c => ⟨(h.1 c).1, (h.1 c).2.1⟩, h.2⟩) (Cert.Kernel.Rows.run_main (F := Bits) m g)

/-- So does its idealization. -/
theorem frame_ideal : Cert.quiescent_KernelIdeal := fun m g _ =>
  (θ_run _ _ _).mono (fun _ h => ⟨fun c => ⟨(h.1 c).1, (h.1 c).2.1⟩, h.2⟩) (Cert.KernelIdeal.Rows.run_main (F := Ideal) m g)

/-- So does the reference, which declares no semaphore. -/
theorem frame_reference : Cert.quiescent_ReferenceIdeal := fun m g _ =>
  (θ_run _ _ _).mono (fun r h => ⟨fun c => (h c).2, sem_eq_zero_of_no_sems rfl r.2⟩) (Cert.ReferenceIdeal.Value.run (F := Ideal) m g)

/-- Where every size is 2048 the two programs leave equal results: each the graphs' sums of the kernel's rows. -/
theorem equal_results : Cert.algebraic_KernelIdeal_ReferenceIdeal_pre_sizes_equal := by
  intro m g m' g' hpre hargs
  exists fun c => Cert.KernelIdeal.Rows.outArr (F := Ideal) (m (Cert.KernelIdeal.Rows.hLoc c))
  refine ⟨(θ_run _ _ _).mono (fun _ h c => ⟨(h.1 c).2.2, (h.1 c).1, (h.1 c).2.1⟩) (Cert.KernelIdeal.Rows.run_main (F := Ideal) m g),
    (θ_run _ _ _).mono (fun _ h c => ⟨(h c).1.trans ?_, (h c).2⟩) (Cert.ReferenceIdeal.Value.run (F := Ideal) m' g')⟩
  refine (Cert.ReferenceIdeal.Segments.result_eq m' c).trans ?_
  rw [(hargs c).1, (hargs c).2]
  exact (congrArg (fun z => Host.scatterAdd _ _ (Cert.ReferenceIdeal.Segments.ids z) _) (Cert.ReferenceIdeal.Segments.sizes_of_pre _ _ (hpre c))).trans
    (Cert.ReferenceIdeal.Segments.scatterAdd_eq _)

theorem claim : Cert.Claim := ⟨Cert.Kernel.Gen.facts, Cert.KernelIdeal.Gen.facts, Cert.ReferenceIdeal.Gen.facts, Cert.Pre_sizes_equal.Gen.facts,
  frame_kernel, frame_ideal, fun m g _ => frame_ideal m g trivial, frame_reference, fun m g _ => frame_reference m g trivial, trivial, equal_results⟩

end Cert.Proof

end
